-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive [hPre_positive : Cert.Pre_positive.Facts] (m : (ℓ : Loc Cert.KernelIdeal.nD Cert.KernelIdeal.τ Cert.KernelIdeal.sig) → Buf (Elt Ideal) ℓ) : Prop :=
  ∀ c : Dev Cert.KernelIdeal.nD,
    (Cert.Pre_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive [hPre_positive : Cert.Pre_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_positive [hKernelIdeal : Cert.KernelIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_positive [hReferenceIdeal : Cert.ReferenceIdeal.Facts] [hPre_positive : Cert.Pre_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_positive [hKernelIdeal : Cert.KernelIdeal.Facts] [hReferenceIdeal : Cert.ReferenceIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v2)) (v4 : (c : Dev Cert.KernelIdeal.nD) → Buf (Elt Ideal) ((c.tc : Thread Cert.KernelIdeal.nD Cert.KernelIdeal.τ).loc Cert.KernelIdeal.main_arg1)) (v5 : (c : Dev Cert.KernelIdeal.nD) → Buf (Elt Ideal) ((c.tc : Thread Cert.KernelIdeal.nD Cert.KernelIdeal.τ).loc Cert.KernelIdeal.main_v4)) (v6 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg1) = v4 c
          ∧ r.2.mem ((c.tc : Thread Cert.KernelIdeal.nD Cert.KernelIdeal.τ).loc Cert.KernelIdeal.main_v4) = v5 c
          ∧ r.2.mem ((c.tc : Thread Cert.KernelIdeal.nD Cert.KernelIdeal.τ).loc Cert.KernelIdeal.main_c) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg1) = v4 c
          ∧ r.2.mem ((c.tc : Thread Cert.ReferenceIdeal.nD Cert.ReferenceIdeal.τ).loc Cert.ReferenceIdeal.main_v36) = v5 c
          ∧ r.2.mem ((c.tc : Thread Cert.ReferenceIdeal.nD Cert.ReferenceIdeal.τ).loc Cert.ReferenceIdeal.main_c_9) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_positive : Cert.Pre_positive.Facts),
    quiescent_Kernel (hKernel := hKernel)
    ∧ quiescent_KernelIdeal (hKernelIdeal := hKernelIdeal)
    ∧ quiescent_KernelIdeal_pre_positive (hKernelIdeal := hKernelIdeal) (hPre_positive := hPre_positive)
    ∧ quiescent_ReferenceIdeal (hReferenceIdeal := hReferenceIdeal)
    ∧ quiescent_ReferenceIdeal_pre_positive (hReferenceIdeal := hReferenceIdeal) (hPre_positive := hPre_positive)
    ∧ preserves_Kernel_KernelIdeal
    ∧ algebraic_KernelIdeal_ReferenceIdeal_pre_positive (hKernelIdeal := hKernelIdeal) (hReferenceIdeal := hReferenceIdeal) (hPre_positive := hPre_positive)
-- ==== Pre_positive.lean ====
abbrev S128x100000 : Shape := ⟨2, ![128, 100000]⟩
abbrev S128 : Shape := ⟨1, ![128]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : IVec S128 32) : IVec S_ 1 :=
  let main_cst : FVec F S_ .f32 := constant S_ .f32 0x00000000#32
  let main_v0 : FVec F S128x100000 .f32 := broadcastInDim S128x100000 ![] bcast_S_S128x100000 main_cst
  let main_v1 : IVec S128x100000 1 := cmpf .ogt main_arg0 main_v0
  let main_c : IVec S_ 1 := constantI S_ 1 1#1
  let main_v2 : IVec S_ 1 := (fun x v => Host.reduce IntOp.andi x v reducesTo_S128x100000_S_d0_1 h_S_) main_v1 main_c
  main_v2
-- ==== Kernel.lean ====
abbrev S128x100000 : Shape := ⟨2, ![128, 100000]⟩
abbrev S128 : Shape := ⟨1, ![128]⟩
abbrev S128x1 : Shape := ⟨2, ![128, 1]⟩
abbrev S1x1 : Shape := ⟨2, ![1, 1]⟩
abbrev S128x2048 : Shape := ⟨2, ![128, 2048]⟩
abbrev S1x128x1 : Shape := ⟨3, ![1, 128, 1]⟩
abbrev S1 : Shape := ⟨1, ![1]⟩
abbrev S1x1x1 : Shape := ⟨3, ![1, 1, 1]⟩
abbrev S1x128 : Shape := ⟨2, ![1, 128]⟩
abbrev S128x128 : Shape := ⟨2, ![128, 128]⟩
abbrev S1x128x128 : Shape := ⟨3, ![1, 128, 128]⟩
abbrev S_ : Shape := ⟨0, ![]⟩

abbrev nBuf : Space → Nat
  | .hbm => 11
  | .vmem => 13
  | .smem => 0
  | _ => 0

abbrev bufTy : (tb : Table) → Fin (tcTables nBuf tb) → BufTy
  | .hbm, ⟨0, _⟩ => ⟨S128x100000, .f32⟩
  | .hbm, ⟨1, _⟩ => ⟨S128, .i32⟩
  | .hbm, ⟨2, _⟩ => ⟨S128x1, .i32⟩
  | .hbm, ⟨3, _⟩ => ⟨S128x1, .f32⟩
  | .hbm, ⟨4, _⟩ => ⟨S1x1, .f32⟩
  | .hbm, ⟨5, _⟩ => ⟨S1x1, .i32⟩
  | .hbm, ⟨6, _⟩ => ⟨S128, .i32⟩
  | .hbm, ⟨7, _⟩ => ⟨S128, .f32⟩
  | .hbm, ⟨8, _⟩ => ⟨S_, .f32⟩
  | .hbm, ⟨9, _⟩ => ⟨S_, .i32⟩
  | .hbm, ⟨10, _⟩ => ⟨S_, .i32⟩
  | .local _ .vmem, ⟨0, _⟩ => ⟨S128x2048, .f32⟩
  | .local _ .vmem, ⟨1, _⟩ => ⟨S128x2048, .f32⟩
  | .local _ .vmem, ⟨2, _⟩ => ⟨S128x1, .i32⟩
  | .local _ .vmem, ⟨3, _⟩ => ⟨S128x1, .f32⟩
  | .local _ .vmem, ⟨4, _⟩ => ⟨S1x1, .f32⟩
  | .local _ .vmem, ⟨5, _⟩ => ⟨S1x1, .i32⟩
  | .local _ .vmem, ⟨6, _⟩ => ⟨S128x1, .f32⟩
  | .local _ .vmem, ⟨7, _⟩ => ⟨S128x1, .i32⟩
  | .local _ .vmem, ⟨8, _⟩ => ⟨S128x1, .f32⟩
  | .local _ .vmem, ⟨9, _⟩ => ⟨S128x1, .i32⟩
  | .local _ .vmem, ⟨10, _⟩ => ⟨S128x1, .f32⟩
  | .local _ .vmem, ⟨11, _⟩ => ⟨S128x1, .f32⟩
  | .local _ .vmem, ⟨12, _⟩ => ⟨S128x1, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v273 : BitVec 1 := Scalar.cmpi .eq arg0 c48_i32
  let v274 : BitVec 32 := Scalar.extui v273
  let c0_i32_87 : BitVec 32 := 0#32
  let v275 : BitVec 1 := Scalar.cmpi .ne v274 c0_i32_87
  v275

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x100000 : Shape := ⟨2, ![128, 100000]⟩
abbrev S128 : Shape := ⟨1, ![128]⟩
abbrev S_ : Shape := ⟨0, ![]⟩
abbrev S128x1 : Shape := ⟨2, ![128, 1]⟩
abbrev S1 : Shape := ⟨1, ![1]⟩
abbrev S2 : Shape := ⟨1, ![2]⟩
abbrev S1x1 : Shape := ⟨2, ![1, 1]⟩
abbrev S128x1x1 : Shape := ⟨3, ![128, 1, 1]⟩
abbrev S1x1x1 : Shape := ⟨3, ![1, 1, 1]⟩
abbrev S1x128 : Shape := ⟨2, ![1, 128]⟩
abbrev S128x128 : Shape := ⟨2, ![128, 128]⟩

abbrev nBuf : Space → Nat
  | .hbm => 345
  | .vmem => 0
  | .smem => 0
  | _ => 0

abbrev hbmTy0_0 (i : Nat) : BufTy := match i % 128 with
  | 0 => ⟨S128x100000, .f32⟩
  | 1 => ⟨S128, .i32⟩
  | 2 => ⟨S128x100000, .i32⟩
  | 3 => ⟨S_, .f32⟩
  | 4 => ⟨S_, .i32⟩
  | 5 => ⟨S128, .f32⟩
  | 6 => ⟨S128, .i32⟩
  | 7 => ⟨S128x1, .i32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S128x100000, .f32⟩
  | 19 => ⟨S_, .f32⟩
  | 20 => ⟨S_, .f32⟩
  | 21 => ⟨S_, .f32⟩
  | 22 => ⟨S_, .f32⟩
  | 23 => ⟨S1x1, .f32⟩
  | 24 => ⟨S1x1, .f32⟩
  | 25 => ⟨S1, .i32⟩
  | 26 => ⟨S_, .i32⟩
  | 27 => ⟨S1, .i32⟩
  | 28 => ⟨S_, .i32⟩
  | 29 => ⟨S128x100000, .i64⟩
  | 30 => ⟨S128x100000, .i64⟩
  | 31 => ⟨S_, .i64⟩
  | 32 => ⟨S128x100000, .i64⟩
  | 33 => ⟨S128x100000, .i64⟩
  | 34 => ⟨S_, .i64⟩
  | 35 => ⟨S128x100000, .i64⟩
  | 36 => ⟨S128x100000, .i64⟩
  | 37 => ⟨S128x100000, .i64⟩
  | 38 => ⟨S_, .i64⟩
  | 39 => ⟨S128x100000, .i64⟩
  | 40 => ⟨S128x100000, .i64⟩
  | 41 => ⟨S128x100000, .i32⟩
  | 42 => ⟨S128x100000, .i32⟩
  | 43 => ⟨S_, .i32⟩
  | 44 => ⟨S_, .i32⟩
  | 45 => ⟨S_, .i32⟩
  | 46 => ⟨S128x100000, .i32⟩
  | 47 => ⟨S128x100000, .i32⟩
  | 48 => ⟨S128x100000, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S128x100000, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S128x100000, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S_, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S128x100000, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S128x100000, .i32⟩
  | 119 => ⟨S128x100000, .i32⟩
  | 120 => ⟨S128x100000, .i32⟩
  | 121 => ⟨S_, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S_, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S128x100000, .i32⟩
  | 34 => ⟨S128x100000, .i32⟩
  | 35 => ⟨S128x100000, .i32⟩
  | 36 => ⟨S_, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .f32⟩
  | 17 => ⟨S_, .f32⟩
  | 18 => ⟨S128x100000, .f32⟩
  | 19 => ⟨S128x100000, .f32⟩
  | 20 => ⟨S1x1, .f32⟩
  | 21 => ⟨S128x100000, .f32⟩
  | 22 => ⟨S128x100000, .f32⟩
  | 23 => ⟨S128x100000, .f32⟩
  | 24 => ⟨S128x100000, .f32⟩
  | 25 => ⟨S128x100000, .f32⟩
  | 26 => ⟨S128x100000, .f32⟩
  | 27 => ⟨S_, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S_, .f32⟩
  | 34 => ⟨S128x100000, .f32⟩
  | 35 => ⟨S128x100000, .f32⟩
  | 36 => ⟨S128x100000, .f32⟩
  | 37 => ⟨S128x100000, .f32⟩
  | 38 => ⟨S128x100000, .f32⟩
  | 39 => ⟨S128x100000, .f32⟩
  | 40 => ⟨S128x100000, .f32⟩
  | 41 => ⟨S128x100000, .i32⟩
  | 42 => ⟨S_, .f32⟩
  | 43 => ⟨S_, .i32⟩
  | 44 => ⟨S128, .f32⟩
  | 45 => ⟨S128, .i32⟩
  | 46 => ⟨S_, .f32⟩
  | 47 => ⟨S128, .f32⟩
  | 48 => ⟨S128x1, .f32⟩
  | 49 => ⟨S128x100000, .f32⟩
  | 50 => ⟨S128x100000, .f32⟩
  | 51 => ⟨S128x1, .i32⟩
  | 52 => ⟨S_, .i32⟩
  | 53 => ⟨S128x1, .i32⟩
  | 54 => ⟨S128x1, .i1⟩
  | 55 => ⟨S_, .i32⟩
  | 56 => ⟨S128x1, .i32⟩
  | 57 => ⟨S128x1, .i32⟩
  | 58 => ⟨S128x1, .i32⟩
  | 59 => ⟨S128x1x1, .i32⟩
  | 60 => ⟨S1, .i32⟩
  | 61 => ⟨S_, .i32⟩
  | 62 => ⟨S128x1x1, .i32⟩
  | 63 => ⟨S128x1x1, .i1⟩
  | 64 => ⟨S1x1x1, .i32⟩
  | 65 => ⟨S128x1x1, .i32⟩
  | 66 => ⟨S128x1x1, .i1⟩
  | 67 => ⟨S128x1x1, .i1⟩
  | 68 => ⟨S_, .i1⟩
  | 69 => ⟨S128x1, .i1⟩
  | 70 => ⟨S128x1, .f32⟩
  | 71 => ⟨S_, .f32⟩
  | 72 => ⟨S128x1, .f32⟩
  | 73 => ⟨S128x1, .f32⟩
  | 74 => ⟨S128, .f32⟩
  | 75 => ⟨S128, .f32⟩
  | 76 => ⟨S1x128, .i32⟩
  | 77 => ⟨S128x128, .i32⟩
  | 78 => ⟨S128x128, .i32⟩
  | 79 => ⟨S128x128, .i1⟩
  | 80 => ⟨S128x128, .i32⟩
  | 81 => ⟨S_, .i32⟩
  | 82 => ⟨S_, .i32⟩
  | 83 => ⟨S128x100000, .f32⟩
  | 84 => ⟨S128x100000, .f32⟩
  | 85 => ⟨S_, .f32⟩
  | 86 => ⟨S_, .f32⟩
  | 87 => ⟨S_, .f32⟩
  | 88 => ⟨S_, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_c : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_c_1 : Ref sig .tc := ⟨.hbm, 38, rfl⟩
abbrev main_call1_v15 : Ref sig .tc := ⟨.hbm, 39, rfl⟩
abbrev main_call1_v16 : Ref sig .tc := ⟨.hbm, 40, rfl⟩
abbrev main_call1_v17 : Ref sig .tc := ⟨.hbm, 41, rfl⟩
abbrev main_call1_v18 : Ref sig .tc := ⟨.hbm, 42, rfl⟩
abbrev main_call1_call0_v0 : Ref sig .tc := ⟨.hbm, 43, rfl⟩
abbrev main_call1_call0_c : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_c_0 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_c_1 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_call0_v12 : Ref sig .tc := ⟨.hbm, 58, rfl⟩
abbrev main_call1_call0_v13 : Ref sig .tc := ⟨.hbm, 59, rfl⟩
abbrev main_call1_call0_c_2 : Ref sig .tc := ⟨.hbm, 60, rfl⟩
abbrev main_call1_call0_v14 : Ref sig .tc := ⟨.hbm, 61, rfl⟩
abbrev main_call1_call0_v15 : Ref sig .tc := ⟨.hbm, 62, rfl⟩
abbrev main_call1_call0_c_3 : Ref sig .tc := ⟨.hbm, 63, rfl⟩
abbrev main_call1_call0_v16 : Ref sig .tc := ⟨.hbm, 64, rfl⟩
abbrev main_call1_call0_v17 : Ref sig .tc := ⟨.hbm, 65, rfl⟩
abbrev main_call1_call0_v18 : Ref sig .tc := ⟨.hbm, 66, rfl⟩
abbrev main_call1_call0_v19 : Ref sig .tc := ⟨.hbm, 67, rfl⟩
abbrev main_call1_call0_v20 : Ref sig .tc := ⟨.hbm, 68, rfl⟩
abbrev main_call1_call0_c_4 : Ref sig .tc := ⟨.hbm, 69, rfl⟩
abbrev main_call1_call0_v21 : Ref sig .tc := ⟨.hbm, 70, rfl⟩
abbrev main_call1_call0_v22 : Ref sig .tc := ⟨.hbm, 71, rfl⟩
abbrev main_call1_call0_c_5 : Ref sig .tc := ⟨.hbm, 72, rfl⟩
abbrev main_call1_call0_v23 : Ref sig .tc := ⟨.hbm, 73, rfl⟩
abbrev main_call1_call0_v24 : Ref sig .tc := ⟨.hbm, 74, rfl⟩
abbrev main_call1_call0_v25 : Ref sig .tc := ⟨.hbm, 75, rfl⟩
abbrev main_call1_call0_v26 : Ref sig .tc := ⟨.hbm, 76, rfl⟩
abbrev main_call1_call0_v27 : Ref sig .tc := ⟨.hbm, 77, rfl⟩
abbrev main_call1_call0_c_6 : Ref sig .tc := ⟨.hbm, 78, rfl⟩
abbrev main_call1_call0_v28 : Ref sig .tc := ⟨.hbm, 79, rfl⟩
abbrev main_call1_call0_v29 : Ref sig .tc := ⟨.hbm, 80, rfl⟩
abbrev main_call1_call0_c_7 : Ref sig .tc := ⟨.hbm, 81, rfl⟩
abbrev main_call1_call0_v30 : Ref sig .tc := ⟨.hbm, 82, rfl⟩
abbrev main_call1_call0_v31 : Ref sig .tc := ⟨.hbm, 83, rfl⟩
abbrev main_call1_call0_v32 : Ref sig .tc := ⟨.hbm, 84, rfl⟩
abbrev main_call1_call0_v33 : Ref sig .tc := ⟨.hbm, 85, rfl⟩
abbrev main_call1_call0_v34 : Ref sig .tc := ⟨.hbm, 86, rfl⟩
abbrev main_call1_call0_v35 : Ref sig .tc := ⟨.hbm, 87, rfl⟩
abbrev main_call1_call0_v36 : Ref sig .tc := ⟨.hbm, 88, rfl⟩
abbrev main_call1_call0_v37 : Ref sig .tc := ⟨.hbm, 89, rfl⟩
abbrev main_call1_call0_c_8 : Ref sig .tc := ⟨.hbm, 90, rfl⟩
abbrev main_call1_call0_v38 : Ref sig .tc := ⟨.hbm, 91, rfl⟩
abbrev main_call1_call0_v39 : Ref sig .tc := ⟨.hbm, 92, rfl⟩
abbrev main_call1_call0_v40 : Ref sig .tc := ⟨.hbm, 93, rfl⟩
abbrev main_call1_call0_c_9 : Ref sig .tc := ⟨.hbm, 94, rfl⟩
abbrev main_call1_call0_v41 : Ref sig .tc := ⟨.hbm, 95, rfl⟩
abbrev main_call1_call0_v42 : Ref sig .tc := ⟨.hbm, 96, rfl⟩
abbrev main_call1_call0_c_10 : Ref sig .tc := ⟨.hbm, 97, rfl⟩
abbrev main_call1_call0_v43 : Ref sig .tc := ⟨.hbm, 98, rfl⟩
abbrev main_call1_call0_v44 : Ref sig .tc := ⟨.hbm, 99, rfl⟩
abbrev main_call1_call0_v45 : Ref sig .tc := ⟨.hbm, 100, rfl⟩
abbrev main_call1_call0_v46 : Ref sig .tc := ⟨.hbm, 101, rfl⟩
abbrev main_call1_call0_v47 : Ref sig .tc := ⟨.hbm, 102, rfl⟩
abbrev main_call1_call0_c_11 : Ref sig .tc := ⟨.hbm, 103, rfl⟩
abbrev main_call1_call0_v48 : Ref sig .tc := ⟨.hbm, 104, rfl⟩
abbrev main_call1_call0_v49 : Ref sig .tc := ⟨.hbm, 105, rfl⟩
abbrev main_call1_call0_c_12 : Ref sig .tc := ⟨.hbm, 106, rfl⟩
abbrev main_call1_call0_v50 : Ref sig .tc := ⟨.hbm, 107, rfl⟩
abbrev main_call1_call0_v51 : Ref sig .tc := ⟨.hbm, 108, rfl⟩
abbrev main_call1_call0_v52 : Ref sig .tc := ⟨.hbm, 109, rfl⟩
abbrev main_call1_call0_v53 : Ref sig .tc := ⟨.hbm, 110, rfl⟩
abbrev main_call1_call0_v54 : Ref sig .tc := ⟨.hbm, 111, rfl⟩
abbrev main_call1_call0_c_13 : Ref sig .tc := ⟨.hbm, 112, rfl⟩
abbrev main_call1_call0_v55 : Ref sig .tc := ⟨.hbm, 113, rfl⟩
abbrev main_call1_call0_v56 : Ref sig .tc := ⟨.hbm, 114, rfl⟩
abbrev main_call1_call0_c_14 : Ref sig .tc := ⟨.hbm, 115, rfl⟩
abbrev main_call1_call0_v57 : Ref sig .tc := ⟨.hbm, 116, rfl⟩
abbrev main_call1_call0_v58 : Ref sig .tc := ⟨.hbm, 117, rfl⟩
abbrev main_call1_call0_v59 : Ref sig .tc := ⟨.hbm, 118, rfl⟩
abbrev main_call1_call0_v60 : Ref sig .tc := ⟨.hbm, 119, rfl⟩
abbrev main_call1_call0_v61 : Ref sig .tc := ⟨.hbm, 120, rfl⟩
abbrev main_call1_call0_c_15 : Ref sig .tc := ⟨.hbm, 121, rfl⟩
abbrev main_call1_call0_v62 : Ref sig .tc := ⟨.hbm, 122, rfl⟩
abbrev main_call1_call0_v63 : Ref sig .tc := ⟨.hbm, 123, rfl⟩
abbrev main_call1_call0_c_16 : Ref sig .tc := ⟨.hbm, 124, rfl⟩
abbrev main_call1_call0_v64 : Ref sig .tc := ⟨.hbm, 125, rfl⟩
abbrev main_call1_call0_v65 : Ref sig .tc := ⟨.hbm, 126, rfl⟩
abbrev main_call1_call0_v66 : Ref sig .tc := ⟨.hbm, 127, rfl⟩
abbrev main_call1_call0_v67 : Ref sig .tc := ⟨.hbm, 128, rfl⟩
abbrev main_call1_call0_v68 : Ref sig .tc := ⟨.hbm, 129, rfl⟩
abbrev main_call1_call0_v69 : Ref sig .tc := ⟨.hbm, 130, rfl⟩
abbrev main_call1_call0_v70 : Ref sig .tc := ⟨.hbm, 131, rfl⟩
abbrev main_call1_call0_v71 : Ref sig .tc := ⟨.hbm, 132, rfl⟩
abbrev main_call1_call0_c_17 : Ref sig .tc := ⟨.hbm, 133, rfl⟩
abbrev main_call1_call0_v72 : Ref sig .tc := ⟨.hbm, 134, rfl⟩
abbrev main_call1_call0_v73 : Ref sig .tc := ⟨.hbm, 135, rfl⟩
abbrev main_call1_call0_v74 : Ref sig .tc := ⟨.hbm, 136, rfl⟩
abbrev main_call1_call0_c_18 : Ref sig .tc := ⟨.hbm, 137, rfl⟩
abbrev main_call1_call0_v75 : Ref sig .tc := ⟨.hbm, 138, rfl⟩
abbrev main_call1_call0_v76 : Ref sig .tc := ⟨.hbm, 139, rfl⟩
abbrev main_call1_call0_c_19 : Ref sig .tc := ⟨.hbm, 140, rfl⟩
abbrev main_call1_call0_v77 : Ref sig .tc := ⟨.hbm, 141, rfl⟩
abbrev main_call1_call0_v78 : Ref sig .tc := ⟨.hbm, 142, rfl⟩
abbrev main_call1_call0_v79 : Ref sig .tc := ⟨.hbm, 143, rfl⟩
abbrev main_call1_call0_v80 : Ref sig .tc := ⟨.hbm, 144, rfl⟩
abbrev main_call1_call0_v81 : Ref sig .tc := ⟨.hbm, 145, rfl⟩
abbrev main_call1_call0_c_20 : Ref sig .tc := ⟨.hbm, 146, rfl⟩
abbrev main_call1_call0_v82 : Ref sig .tc := ⟨.hbm, 147, rfl⟩
abbrev main_call1_call0_v83 : Ref sig .tc := ⟨.hbm, 148, rfl⟩
abbrev main_call1_call0_c_21 : Ref sig .tc := ⟨.hbm, 149, rfl⟩
abbrev main_call1_call0_v84 : Ref sig .tc := ⟨.hbm, 150, rfl⟩
abbrev main_call1_call0_v85 : Ref sig .tc := ⟨.hbm, 151, rfl⟩
abbrev main_call1_call0_v86 : Ref sig .tc := ⟨.hbm, 152, rfl⟩
abbrev main_call1_call0_v87 : Ref sig .tc := ⟨.hbm, 153, rfl⟩
abbrev main_call1_call0_v88 : Ref sig .tc := ⟨.hbm, 154, rfl⟩
abbrev main_call1_call0_c_22 : Ref sig .tc := ⟨.hbm, 155, rfl⟩
abbrev main_call1_call0_v89 : Ref sig .tc := ⟨.hbm, 156, rfl⟩
abbrev main_call1_call0_v90 : Ref sig .tc := ⟨.hbm, 157, rfl⟩
abbrev main_call1_call0_c_23 : Ref sig .tc := ⟨.hbm, 158, rfl⟩
abbrev main_call1_call0_v91 : Ref sig .tc := ⟨.hbm, 159, rfl⟩
abbrev main_call1_call0_v92 : Ref sig .tc := ⟨.hbm, 160, rfl⟩
abbrev main_call1_call0_v93 : Ref sig .tc := ⟨.hbm, 161, rfl⟩
abbrev main_call1_call0_v94 : Ref sig .tc := ⟨.hbm, 162, rfl⟩
abbrev main_call1_call0_v95 : Ref sig .tc := ⟨.hbm, 163, rfl⟩
abbrev main_call1_call0_c_24 : Ref sig .tc := ⟨.hbm, 164, rfl⟩
abbrev main_call1_call0_v96 : Ref sig .tc := ⟨.hbm, 165, rfl⟩
abbrev main_call1_call0_v97 : Ref sig .tc := ⟨.hbm, 166, rfl⟩
abbrev main_call1_call0_c_25 : Ref sig .tc := ⟨.hbm, 167, rfl⟩
abbrev main_call1_call0_v98 : Ref sig .tc := ⟨.hbm, 168, rfl⟩
abbrev main_call1_call0_v99 : Ref sig .tc := ⟨.hbm, 169, rfl⟩
abbrev main_call1_call0_v100 : Ref sig .tc := ⟨.hbm, 170, rfl⟩
abbrev main_call1_call0_v101 : Ref sig .tc := ⟨.hbm, 171, rfl⟩
abbrev main_call1_call0_v102 : Ref sig .tc := ⟨.hbm, 172, rfl⟩
abbrev main_call1_call0_v103 : Ref sig .tc := ⟨.hbm, 173, rfl⟩
abbrev main_call1_call0_v104 : Ref sig .tc := ⟨.hbm, 174, rfl⟩
abbrev main_call1_call0_v105 : Ref sig .tc := ⟨.hbm, 175, rfl⟩
abbrev main_call1_call0_c_26 : Ref sig .tc := ⟨.hbm, 176, rfl⟩
abbrev main_call1_call0_v106 : Ref sig .tc := ⟨.hbm, 177, rfl⟩
abbrev main_call1_call0_v107 : Ref sig .tc := ⟨.hbm, 178, rfl⟩
abbrev main_call1_call0_v108 : Ref sig .tc := ⟨.hbm, 179, rfl⟩
abbrev main_call1_call0_c_27 : Ref sig .tc := ⟨.hbm, 180, rfl⟩
abbrev main_call1_call0_v109 : Ref sig .tc := ⟨.hbm, 181, rfl⟩
abbrev main_call1_call0_v110 : Ref sig .tc := ⟨.hbm, 182, rfl⟩
abbrev main_call1_call0_c_28 : Ref sig .tc := ⟨.hbm, 183, rfl⟩
abbrev main_call1_call0_v111 : Ref sig .tc := ⟨.hbm, 184, rfl⟩
abbrev main_call1_call0_v112 : Ref sig .tc := ⟨.hbm, 185, rfl⟩
abbrev main_call1_call0_v113 : Ref sig .tc := ⟨.hbm, 186, rfl⟩
abbrev main_call1_call0_v114 : Ref sig .tc := ⟨.hbm, 187, rfl⟩
abbrev main_call1_call0_v115 : Ref sig .tc := ⟨.hbm, 188, rfl⟩
abbrev main_call1_call0_c_29 : Ref sig .tc := ⟨.hbm, 189, rfl⟩
abbrev main_call1_call0_v116 : Ref sig .tc := ⟨.hbm, 190, rfl⟩
abbrev main_call1_call0_v117 : Ref sig .tc := ⟨.hbm, 191, rfl⟩
abbrev main_call1_call0_c_30 : Ref sig .tc := ⟨.hbm, 192, rfl⟩
abbrev main_call1_call0_v118 : Ref sig .tc := ⟨.hbm, 193, rfl⟩
abbrev main_call1_call0_v119 : Ref sig .tc := ⟨.hbm, 194, rfl⟩
abbrev main_call1_call0_v120 : Ref sig .tc := ⟨.hbm, 195, rfl⟩
abbrev main_call1_call0_v121 : Ref sig .tc := ⟨.hbm, 196, rfl⟩
abbrev main_call1_call0_v122 : Ref sig .tc := ⟨.hbm, 197, rfl⟩
abbrev main_call1_call0_c_31 : Ref sig .tc := ⟨.hbm, 198, rfl⟩
abbrev main_call1_call0_v123 : Ref sig .tc := ⟨.hbm, 199, rfl⟩
abbrev main_call1_call0_v124 : Ref sig .tc := ⟨.hbm, 200, rfl⟩
abbrev main_call1_call0_c_32 : Ref sig .tc := ⟨.hbm, 201, rfl⟩
abbrev main_call1_call0_v125 : Ref sig .tc := ⟨.hbm, 202, rfl⟩
abbrev main_call1_call0_v126 : Ref sig .tc := ⟨.hbm, 203, rfl⟩
abbrev main_call1_call0_v127 : Ref sig .tc := ⟨.hbm, 204, rfl⟩
abbrev main_call1_call0_v128 : Ref sig .tc := ⟨.hbm, 205, rfl⟩
abbrev main_call1_call0_v129 : Ref sig .tc := ⟨.hbm, 206, rfl⟩
abbrev main_call1_call0_c_33 : Ref sig .tc := ⟨.hbm, 207, rfl⟩
abbrev main_call1_call0_v130 : Ref sig .tc := ⟨.hbm, 208, rfl⟩
abbrev main_call1_call0_v131 : Ref sig .tc := ⟨.hbm, 209, rfl⟩
abbrev main_call1_call0_c_34 : Ref sig .tc := ⟨.hbm, 210, rfl⟩
abbrev main_call1_call0_v132 : Ref sig .tc := ⟨.hbm, 211, rfl⟩
abbrev main_call1_call0_v133 : Ref sig .tc := ⟨.hbm, 212, rfl⟩
abbrev main_call1_call0_v134 : Ref sig .tc := ⟨.hbm, 213, rfl⟩
abbrev main_call1_call0_v135 : Ref sig .tc := ⟨.hbm, 214, rfl⟩
abbrev main_call1_call0_v136 : Ref sig .tc := ⟨.hbm, 215, rfl⟩
abbrev main_call1_call0_v137 : Ref sig .tc := ⟨.hbm, 216, rfl⟩
abbrev main_call1_call0_v138 : Ref sig .tc := ⟨.hbm, 217, rfl⟩
abbrev main_call1_call0_v139 : Ref sig .tc := ⟨.hbm, 218, rfl⟩
abbrev main_call1_call0_c_35 : Ref sig .tc := ⟨.hbm, 219, rfl⟩
abbrev main_call1_call0_v140 : Ref sig .tc := ⟨.hbm, 220, rfl⟩
abbrev main_call1_call0_v141 : Ref sig .tc := ⟨.hbm, 221, rfl⟩
abbrev main_call1_call0_v142 : Ref sig .tc := ⟨.hbm, 222, rfl⟩
abbrev main_call1_call0_c_36 : Ref sig .tc := ⟨.hbm, 223, rfl⟩
abbrev main_call1_call0_v143 : Ref sig .tc := ⟨.hbm, 224, rfl⟩
abbrev main_call1_call0_v144 : Ref sig .tc := ⟨.hbm, 225, rfl⟩
abbrev main_call1_call0_c_37 : Ref sig .tc := ⟨.hbm, 226, rfl⟩
abbrev main_call1_call0_v145 : Ref sig .tc := ⟨.hbm, 227, rfl⟩
abbrev main_call1_call0_v146 : Ref sig .tc := ⟨.hbm, 228, rfl⟩
abbrev main_call1_call0_v147 : Ref sig .tc := ⟨.hbm, 229, rfl⟩
abbrev main_call1_call0_v148 : Ref sig .tc := ⟨.hbm, 230, rfl⟩
abbrev main_call1_call0_v149 : Ref sig .tc := ⟨.hbm, 231, rfl⟩
abbrev main_call1_call0_c_38 : Ref sig .tc := ⟨.hbm, 232, rfl⟩
abbrev main_call1_call0_v150 : Ref sig .tc := ⟨.hbm, 233, rfl⟩
abbrev main_call1_call0_v151 : Ref sig .tc := ⟨.hbm, 234, rfl⟩
abbrev main_call1_call0_c_39 : Ref sig .tc := ⟨.hbm, 235, rfl⟩
abbrev main_call1_call0_v152 : Ref sig .tc := ⟨.hbm, 236, rfl⟩
abbrev main_call1_call0_v153 : Ref sig .tc := ⟨.hbm, 237, rfl⟩
abbrev main_call1_call0_v154 : Ref sig .tc := ⟨.hbm, 238, rfl⟩
abbrev main_call1_call0_v155 : Ref sig .tc := ⟨.hbm, 239, rfl⟩
abbrev main_call1_call0_v156 : Ref sig .tc := ⟨.hbm, 240, rfl⟩
abbrev main_call1_call0_c_40 : Ref sig .tc := ⟨.hbm, 241, rfl⟩
abbrev main_call1_call0_v157 : Ref sig .tc := ⟨.hbm, 242, rfl⟩
abbrev main_call1_call0_v158 : Ref sig .tc := ⟨.hbm, 243, rfl⟩
abbrev main_call1_call0_c_41 : Ref sig .tc := ⟨.hbm, 244, rfl⟩
abbrev main_call1_call0_v159 : Ref sig .tc := ⟨.hbm, 245, rfl⟩
abbrev main_call1_call0_v160 : Ref sig .tc := ⟨.hbm, 246, rfl⟩
abbrev main_call1_call0_v161 : Ref sig .tc := ⟨.hbm, 247, rfl⟩
abbrev main_call1_call0_v162 : Ref sig .tc := ⟨.hbm, 248, rfl⟩
abbrev main_call1_call0_v163 : Ref sig .tc := ⟨.hbm, 249, rfl⟩
abbrev main_call1_call0_c_42 : Ref sig .tc := ⟨.hbm, 250, rfl⟩
abbrev main_call1_call0_v164 : Ref sig .tc := ⟨.hbm, 251, rfl⟩
abbrev main_call1_call0_v165 : Ref sig .tc := ⟨.hbm, 252, rfl⟩
abbrev main_call1_call0_c_43 : Ref sig .tc := ⟨.hbm, 253, rfl⟩
abbrev main_call1_call0_v166 : Ref sig .tc := ⟨.hbm, 254, rfl⟩
abbrev main_call1_call0_v167 : Ref sig .tc := ⟨.hbm, 255, rfl⟩
abbrev main_call1_call0_v168 : Ref sig .tc := ⟨.hbm, 256, rfl⟩
abbrev main_call1_call0_v169 : Ref sig .tc := ⟨.hbm, 257, rfl⟩
abbrev main_call1_call0_v170 : Ref sig .tc := ⟨.hbm, 258, rfl⟩
abbrev main_call1_v19_0 : Ref sig .tc := ⟨.hbm, 259, rfl⟩
abbrev main_call1_call0_v172 : Ref sig .tc := ⟨.hbm, 260, rfl⟩
abbrev main_call1_call0_v173 : Ref sig .tc := ⟨.hbm, 261, rfl⟩
abbrev main_call1_call0_c_44 : Ref sig .tc := ⟨.hbm, 262, rfl⟩
abbrev main_call1_call0_v174 : Ref sig .tc := ⟨.hbm, 263, rfl⟩
abbrev main_call1_v19_1 : Ref sig .tc := ⟨.hbm, 264, rfl⟩
abbrev main_call1_v20 : Ref sig .tc := ⟨.hbm, 265, rfl⟩
abbrev main_call1_c_2 : Ref sig .tc := ⟨.hbm, 266, rfl⟩
abbrev main_call1_v21 : Ref sig .tc := ⟨.hbm, 267, rfl⟩
abbrev main_call1_v22 : Ref sig .tc := ⟨.hbm, 268, rfl⟩
abbrev main_call1_c_3 : Ref sig .tc := ⟨.hbm, 269, rfl⟩
abbrev main_call1_v23 : Ref sig .tc := ⟨.hbm, 270, rfl⟩
abbrev main_call1_v24 : Ref sig .tc := ⟨.hbm, 271, rfl⟩
abbrev main_call1_v25 : Ref sig .tc := ⟨.hbm, 272, rfl⟩
abbrev main_call1_cst : Ref sig .tc := ⟨.hbm, 273, rfl⟩
abbrev main_call1_v26 : Ref sig .tc := ⟨.hbm, 274, rfl⟩
abbrev main_call1_v27 : Ref sig .tc := ⟨.hbm, 275, rfl⟩
abbrev main_call1_v28 : Ref sig .tc := ⟨.hbm, 276, rfl⟩
abbrev main_call1_v29 : Ref sig .tc := ⟨.hbm, 277, rfl⟩
abbrev main_call1_v30 : Ref sig .tc := ⟨.hbm, 278, rfl⟩
abbrev main_call1_v31 : Ref sig .tc := ⟨.hbm, 279, rfl⟩
abbrev main_call1_v32 : Ref sig .tc := ⟨.hbm, 280, rfl⟩
abbrev main_call1_v33 : Ref sig .tc := ⟨.hbm, 281, rfl⟩
abbrev main_v10 : Ref sig .tc := ⟨.hbm, 282, rfl⟩
abbrev main_cst_3 : Ref sig .tc := ⟨.hbm, 283, rfl⟩
abbrev main_v11 : Ref sig .tc := ⟨.hbm, 284, rfl⟩
abbrev main_v12 : Ref sig .tc := ⟨.hbm, 285, rfl⟩
abbrev main_cst_4 : Ref sig .tc := ⟨.hbm, 286, rfl⟩
abbrev main_v13 : Ref sig .tc := ⟨.hbm, 287, rfl⟩
abbrev main_v14 : Ref sig .tc := ⟨.hbm, 288, rfl⟩
abbrev main_cst_5 : Ref sig .tc := ⟨.hbm, 289, rfl⟩
abbrev main_v15 : Ref sig .tc := ⟨.hbm, 290, rfl⟩
abbrev main_v16 : Ref sig .tc := ⟨.hbm, 291, rfl⟩
abbrev main_v17 : Ref sig .tc := ⟨.hbm, 292, rfl⟩
abbrev main_v18 : Ref sig .tc := ⟨.hbm, 293, rfl⟩
abbrev main_v19 : Ref sig .tc := ⟨.hbm, 294, rfl⟩
abbrev main_v20 : Ref sig .tc := ⟨.hbm, 295, rfl⟩
abbrev main_v21 : Ref sig .tc := ⟨.hbm, 296, rfl⟩
abbrev main_call2_v0 : Ref sig .tc := ⟨.hbm, 297, rfl⟩
abbrev main_call2_cst : Ref sig .tc := ⟨.hbm, 298, rfl⟩
abbrev main_call2_c : Ref sig .tc := ⟨.hbm, 299, rfl⟩
abbrev main_call2_v1_0 : Ref sig .tc := ⟨.hbm, 300, rfl⟩
abbrev main_v22 : Ref sig .tc := ⟨.hbm, 301, rfl⟩
abbrev main_cst_6 : Ref sig .tc := ⟨.hbm, 302, rfl⟩
abbrev main_v23 : Ref sig .tc := ⟨.hbm, 303, rfl⟩
abbrev main_v24 : Ref sig .tc := ⟨.hbm, 304, rfl⟩
abbrev main_v25 : Ref sig .tc := ⟨.hbm, 305, rfl⟩
abbrev main_v26 : Ref sig .tc := ⟨.hbm, 306, rfl⟩
abbrev main_v27 : Ref sig .tc := ⟨.hbm, 307, rfl⟩
abbrev main_call3_c : Ref sig .tc := ⟨.hbm, 308, rfl⟩
abbrev main_call3_v0 : Ref sig .tc := ⟨.hbm, 309, rfl⟩
abbrev main_call3_v1 : Ref sig .tc := ⟨.hbm, 310, rfl⟩
abbrev main_call3_c_0 : Ref sig .tc := ⟨.hbm, 311, rfl⟩
abbrev main_call3_v2 : Ref sig .tc := ⟨.hbm, 312, rfl⟩
abbrev main_call3_v3 : Ref sig .tc := ⟨.hbm, 313, rfl⟩
abbrev main_call3_v4 : Ref sig .tc := ⟨.hbm, 314, rfl⟩
abbrev main_call3_v5 : Ref sig .tc := ⟨.hbm, 315, rfl⟩
abbrev main_call3_c_1 : Ref sig .tc := ⟨.hbm, 316, rfl⟩
abbrev main_call3_c_2 : Ref sig .tc := ⟨.hbm, 317, rfl⟩
abbrev main_call3_v6 : Ref sig .tc := ⟨.hbm, 318, rfl⟩
abbrev main_call3_v7 : Ref sig .tc := ⟨.hbm, 319, rfl⟩
abbrev main_call3_v8 : Ref sig .tc := ⟨.hbm, 320, rfl⟩
abbrev main_call3_v9 : Ref sig .tc := ⟨.hbm, 321, rfl⟩
abbrev main_call3_v10 : Ref sig .tc := ⟨.hbm, 322, rfl⟩
abbrev main_call3_v11 : Ref sig .tc := ⟨.hbm, 323, rfl⟩
abbrev main_call3_c_3 : Ref sig .tc := ⟨.hbm, 324, rfl⟩
abbrev main_call3_v12 : Ref sig .tc := ⟨.hbm, 325, rfl⟩
abbrev main_call3_v13 : Ref sig .tc := ⟨.hbm, 326, rfl⟩
abbrev main_call3_cst : Ref sig .tc := ⟨.hbm, 327, rfl⟩
abbrev main_call3_v14 : Ref sig .tc := ⟨.hbm, 328, rfl⟩
abbrev main_v28 : Ref sig .tc := ⟨.hbm, 329, rfl⟩
abbrev main_v29 : Ref sig .tc := ⟨.hbm, 330, rfl⟩
abbrev main_v30 : Ref sig .tc := ⟨.hbm, 331, rfl⟩
abbrev main_v31 : Ref sig .tc := ⟨.hbm, 332, rfl⟩
abbrev main_v32 : Ref sig .tc := ⟨.hbm, 333, rfl⟩
abbrev main_v33 : Ref sig .tc := ⟨.hbm, 334, rfl⟩
abbrev main_v34 : Ref sig .tc := ⟨.hbm, 335, rfl⟩
abbrev main_v35 : Ref sig .tc := ⟨.hbm, 336, rfl⟩
abbrev main_c_7 : Ref sig .tc := ⟨.hbm, 337, rfl⟩
abbrev main_v36 : Ref sig .tc := ⟨.hbm, 338, rfl⟩
abbrev main_v37 : Ref sig .tc := ⟨.hbm, 339, rfl⟩
abbrev main_v38 : Ref sig .tc := ⟨.hbm, 340, rfl⟩
abbrev main_cst_8 : Ref sig .tc := ⟨.hbm, 341, rfl⟩
abbrev main_v39 : Ref sig .tc := ⟨.hbm, 342, rfl⟩
abbrev main_v40 : Ref sig .tc := ⟨.hbm, 343, rfl⟩
abbrev main_c_9 : Ref sig .tc := ⟨.hbm, 344, rfl⟩

abbrev nD : Nat := 1
abbrev τ : Topo := Topo.v7x

variable {F : FTy → Type} [FloatOps F]
-- ==== Proof.KernelBody.lean ====
module

public import proofs.«01_k».proof.Proof.Gen.KernelIdeal.Frame
public import proofs.«01_k».proof.Proof.Gen.KernelIdeal.Skeleton
public import Idealize.ShloMosaic.Lib.Pipeline.Value

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- What the seven scratch buffers hold. -/
structure Scr (F : FTy → Type) where
  gxv : FVec F S128x1 .f32
  gxi : IVec S128x1 32
  gsv : FVec F S128x1 .f32
  gsi : IVec S128x1 32
  gsl : FVec F S128x1 .f32
  rs : FVec F S128x1 .f32
  ea : FVec F S128x1 .f32

/-- The scratch buffers' contents after the first point's initialisation. -/
def Scr.init : Scr F :=
  ⟨k0_pay10, k0_pay12, k0_pay11, k0_pay13, k0_pay14, k0_pay15, k0_pay16⟩

/-- The sampling score of a block, as the body computes it from the block and the point. -/
def score (i : grid0.Coords) (X : FVec F S128x2048 .f32) : FVec F S128x2048 .f32 :=
  k0_pay54 X (k0_pay18 i)
    (k0_pay52 (k0_pay50 (k0_pay37 (k0_pay25 i) (k0_pay26 i) (k0_pay27 i) 26#32) (k0_pay38 (k0_pay25 i) (k0_pay26 i) (k0_pay27 i) 26#32))
      (k0_pay51 (k0_pay37 (k0_pay25 i) (k0_pay26 i) (k0_pay27 i) 26#32) (k0_pay38 (k0_pay25 i) (k0_pay26 i) (k0_pay27 i) 26#32))) 9#32

/-- The scratch buffers' contents after one block, from those before it. -/
def Scr.step (i : grid0.Coords) (X : FVec F S128x2048 .f32) (s : Scr F) : Scr F where
  gxv := k0_pay59 X (k0_pay18 i) s.gxv s.gxv
  gxi := k0_pay60 (F := F) (k0_pay57 X (k0_pay17 i) (k0_pay18 i)) (k0_pay58 X (k0_pay18 i) s.gxv) s.gxi
  gsv := k0_pay64 (score i X) s.gsv s.gsv
  gsi := k0_pay65 (F := F) (k0_pay17 i) (score i X) s.gsv s.gsi
  gsl := k0_pay1 (k0_pay66 (k0_pay17 i) (k0_pay53 X) (score i X) s.gsv s.gsl)
  rs := k0_pay2 X (k0_pay18 i) s.rs
  ea := k0_pay3 X (k0_pay18 i) (k0_pay53 X) s.ea

/-- What the last point stores of the log-probability of the sampled token. -/
def Scr.lg (s : Scr F) : FVec F S128x1 .f32 := k0_pay4 s.gsl s.rs

/-- What the last point stores of the entropy. -/
def Scr.en (s : Scr F) : FVec F S1x1 .f32 := k0_pay5 s.ea

/-- What the last point stores of the matches. -/
def Scr.mt (s : Scr F) : IVec S1x1 32 := k0_pay6 (F := F) s.gsi s.gxi

/-- The staging buffers and the scratch buffers of the body, at the given contents. -/
abbrev held (c : Dev nD) (m : Memref sig .tc .vmem S128x2048 .f32)
    (B : Buf (Elt F) (m.view.loc (c : Thread nD τ))) (O1 : IVec S128x1 32) (O2 : FVec F S128x1 .f32)
    (O3 : FVec F S1x1 .f32) (O4 : IVec S1x1 32) (s : Scr F) : sProp 𝕄 :=
  iprop((m.view.loc (c : Thread nD τ) ↦{fullShare} B)
    ∗ ((Memref.whole cc0_stg1_0).view.loc (c : Thread nD τ) ↦{fullShare} O1)
    ∗ ((Memref.whole cc0_stg2_0).view.loc (c : Thread nD τ) ↦{fullShare} O2)
    ∗ ((Memref.whole cc0_stg3_0).view.loc (c : Thread nD τ) ↦{fullShare} O3)
    ∗ ((Memref.whole cc0_stg4_0).view.loc (c : Thread nD τ) ↦{fullShare} O4)
    ∗ ((Memref.whole cc0_scratch0).view.loc (c : Thread nD τ) ↦{fullShare} s.gxv)
    ∗ ((Memref.whole cc0_scratch1).view.loc (c : Thread nD τ) ↦{fullShare} s.gxi)
    ∗ ((Memref.whole cc0_scratch2).view.loc (c : Thread nD τ) ↦{fullShare} s.gsv)
    ∗ ((Memref.whole cc0_scratch3).view.loc (c : Thread nD τ) ↦{fullShare} s.gsi)
    ∗ ((Memref.whole cc0_scratch4).view.loc (c : Thread nD τ) ↦{fullShare} s.gsl)
    ∗ ((Memref.whole cc0_scratch5).view.loc (c : Thread nD τ) ↦{fullShare} s.rs)
    ∗ ((Memref.whole cc0_scratch6).view.loc (c : Thread nD τ) ↦{fullShare} s.ea))

/-- The body's program at grid coordinates `i`, `x`'s block in its staging buffer `s0`. -/
abbrev prog (i : grid0.Coords) (m : Memref sig .tc .vmem S128x2048 .f32) (hm : m.IsWhole) :
    Prog (TpuEff nD τ sig (Elt F) Λ₀ .tc) PUnit :=
  cc0__body i m hm (Memref.whole cc0_stg1_0) (hstage0_1 0) (Memref.whole cc0_stg2_0) (hstage0_2 0)
    (Memref.whole cc0_stg3_0) (hstage0_3 0) (Memref.whole cc0_stg4_0) (hstage0_4 0)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)

/-- A store of the whole buffer leaves what it stored. -/
theorem writes_whole (b : Ref sig .tc) {off : Fin b.ty.shape.rank → Nat} (h : off = fun _ => 0)
    (inb : ∀ a, off a + b.ty.shape.size a ≤ b.ty.shape.size a) (f w : b.ty.Contents (Elt F))
    (L : List (View.Piece (Elt F) b.ty.shape b.ty.elt)) :
    (Memref.whole b : Memref sig .tc _ _ _).view.writes (Elt F) f (⟨Rect.unit off b.ty.shape.size inb, w⟩ :: L) = w :=
  Memref.write_access_unit_zero_univ (Elt F) b h inb _ w

/-- The offsets of every access. -/
theorem hz : (![0, 0] : Fin 2 → Nat) = fun _ => 0 := funext fun a => by fin_cases a <;> rfl

/-- A store of the whole of scratch buffer 0. -/
theorem w_cc0_scratch0 (f w : Vec F S128x1 .f32) (L : List (View.Piece (Elt F) S128x1 .f32)) :
    (Memref.whole cc0_scratch0).view.writes (Elt F) f (⟨Rect.unit ![0, 0] S128x1.size inb_S128x1_S128x1_0_0, w⟩ :: L) = w :=
  writes_whole cc0_scratch0 hz inb_S128x1_S128x1_0_0 f w L

/-- A store of the whole of scratch buffer 1. -/
theorem w_cc0_scratch1 (f w : Vec F S128x1 .i32) (L : List (View.Piece (Elt F) S128x1 .i32)) :
    (Memref.whole cc0_scratch1).view.writes (Elt F) f (⟨Rect.unit ![0, 0] S128x1.size inb_S128x1_S128x1_0_0, w⟩ :: L) = w :=
  writes_whole cc0_scratch1 hz inb_S128x1_S128x1_0_0 f w L

/-- A store of the whole of scratch buffer 2. -/
theorem w_cc0_scratch2 (f w : Vec F S128x1 .f32) (L : List (View.Piece (Elt F) S128x1 .f32)) :
    (Memref.whole cc0_scratch2).view.writes (Elt F) f (⟨Rect.unit ![0, 0] S128x1.size inb_S128x1_S128x1_0_0, w⟩ :: L) = w :=
  writes_whole cc0_scratch2 hz inb_S128x1_S128x1_0_0 f w L

/-- A store of the whole of scratch buffer 3. -/
theorem w_cc0_scratch3 (f w : Vec F S128x1 .i32) (L : List (View.Piece (Elt F) S128x1 .i32)) :
    (Memref.whole cc0_scratch3).view.writes (Elt F) f (⟨Rect.unit ![0, 0] S128x1.size inb_S128x1_S128x1_0_0, w⟩ :: L) = w :=
  writes_whole cc0_scratch3 hz inb_S128x1_S128x1_0_0 f w L

/-- A store of the whole of scratch buffer 4. -/
theorem w_cc0_scratch4 (f w : Vec F S128x1 .f32) (L : List (View.Piece (Elt F) S128x1 .f32)) :
    (Memref.whole cc0_scratch4).view.writes (Elt F) f (⟨Rect.unit ![0, 0] S128x1.size inb_S128x1_S128x1_0_0, w⟩ :: L) = w :=
  writes_whole cc0_scratch4 hz inb_S128x1_S128x1_0_0 f w L

/-- A store of the whole of scratch buffer 5. -/
theorem w_cc0_scratch5 (f w : Vec F S128x1 .f32) (L : List (View.Piece (Elt F) S128x1 .f32)) :
    (Memref.whole cc0_scratch5).view.writes (Elt F) f (⟨Rect.unit ![0, 0] S128x1.size inb_S128x1_S128x1_0_0, w⟩ :: L) = w :=
  writes_whole cc0_scratch5 hz inb_S128x1_S128x1_0_0 f w L

/-- A store of the whole of scratch buffer 6. -/
theorem w_cc0_scratch6 (f w : Vec F S128x1 .f32) (L : List (View.Piece (Elt F) S128x1 .f32)) :
    (Memref.whole cc0_scratch6).view.writes (Elt F) f (⟨Rect.unit ![0, 0] S128x1.size inb_S128x1_S128x1_0_0, w⟩ :: L) = w :=
  writes_whole cc0_scratch6 hz inb_S128x1_S128x1_0_0 f w L

/-- A store of the whole of result 1's staging buffer. -/
theorem w_cc0_stg1_0 (f w : Vec F S128x1 .i32) (L : List (View.Piece (Elt F) S128x1 .i32)) :
    (Memref.whole cc0_stg1_0).view.writes (Elt F) f (⟨Rect.unit ![0, 0] S128x1.size inb_S128x1_S128x1_0_0, w⟩ :: L) = w :=
  writes_whole cc0_stg1_0 hz inb_S128x1_S128x1_0_0 f w L

/-- A store of the whole of result 2's staging buffer. -/
theorem w_cc0_stg2_0 (f w : Vec F S128x1 .f32) (L : List (View.Piece (Elt F) S128x1 .f32)) :
    (Memref.whole cc0_stg2_0).view.writes (Elt F) f (⟨Rect.unit ![0, 0] S128x1.size inb_S128x1_S128x1_0_0, w⟩ :: L) = w :=
  writes_whole cc0_stg2_0 hz inb_S128x1_S128x1_0_0 f w L

/-- A store of the whole of result 3's staging buffer. -/
theorem w_cc0_stg3_0 (f w : Vec F S1x1 .f32) (L : List (View.Piece (Elt F) S1x1 .f32)) :
    (Memref.whole cc0_stg3_0).view.writes (Elt F) f (⟨Rect.unit ![0, 0] S1x1.size inb_S1x1_S1x1_0_0, w⟩ :: L) = w :=
  writes_whole cc0_stg3_0 hz inb_S1x1_S1x1_0_0 f w L

/-- A store of the whole of result 4's staging buffer. -/
theorem w_cc0_stg4_0 (f w : Vec F S1x1 .i32) (L : List (View.Piece (Elt F) S1x1 .i32)) :
    (Memref.whole cc0_stg4_0).view.writes (Elt F) f (⟨Rect.unit ![0, 0] S1x1.size inb_S1x1_S1x1_0_0, w⟩ :: L) = w :=
  writes_whole cc0_stg4_0 hz inb_S1x1_S1x1_0_0 f w L

/-- The body's first condition holds at the first point alone. -/
theorem first_iff (i : grid0.Coords) :
    (Scalar.cmpi .ne (Scalar.extui (Scalar.cmpi .eq (BitVec.ofNat 32 (i 0).val) 0#32) : BitVec 32) 0#32 = 1#1)
      ↔ (i 0).val = 0 := by
  have h : ∀ n : Fin 49, (Scalar.cmpi .ne (Scalar.extui (Scalar.cmpi .eq (BitVec.ofNat 32 n.val) 0#32) : BitVec 32) 0#32
      = 1#1) ↔ n.val = 0 := by decide
  exact h (i 0)

/-- The body's last condition holds at the last point alone. -/
theorem last_iff (i : grid0.Coords) : k0_cond2 i = 1#1 ↔ (i 0).val = 48 := by
  have h : ∀ n : Fin 49, (Scalar.cmpi .ne (Scalar.extui (Scalar.cmpi .eq (BitVec.ofNat 32 n.val) 48#32) : BitVec 32) 0#32
      = 1#1) ↔ n.val = 48 := by decide
  exact h (i 0)

/-- The body at the first grid point: it leaves in the scratch buffers the step from their initial contents. -/
theorem body_first (c : Dev nD) (i : grid0.Coords) (m : Memref sig .tc .vmem S128x2048 .f32) (hm : m.IsWhole)
    (h1 : (i 0).val = 0) (B : Buf (Elt F) (m.view.loc (c : Thread nD τ))) (X : FVec F S128x2048 .f32)
    (hB : m.view.readAt (Elt F) (Rect.unit ![0, 0] S128x2048.size inb_S128x2048_S128x2048_0_0).toLoadRect B = X)
    (O1 : IVec S128x1 32) (O2 : FVec F S128x1 .f32) (O3 : FVec F S1x1 .f32) (O4 : IVec S1x1 32) (s : Scr F)
    (K : PUnit → sProp 𝕄) :
    iprop(held c m B O1 O2 O3 O4 s ∗ (held c m B O1 O2 O3 O4 (Scr.step i X Scr.init)  -∗ K ⟨⟩))
      ⊢ wp frame (wpE (defs₀ (F := F)) Variants.none c none) Set.univ (prog i m hm) K := by
  have hc2 : ¬ k0_cond2 i = 1#1 := by
    unfold k0_cond2; rw [h1]; decide
  have hc1 : Scalar.cmpi .ne (Scalar.extui (Scalar.cmpi .eq (BitVec.ofNat 32 (i 0).val) 0#32) : BitVec 32) 0#32 = 1#1 := by
    rw [h1]; decide
  iintro ⟨⟨H0, H1, H2, H3, H4, S0, S1, S2, S3, S4, S5, S6⟩, Hk⟩
  sl_exec
  sl_step
  iapply Hk
  have e0 : body_first.sl.v211 (F := F) = k0_pay10 := View.readCov_unit_zero _ hz _ _
  have e1 : body_first.sl.v218 (F := F) = k0_pay12 := View.readCov_unit_zero _ hz _ _
  have e2 : body_first.sl.v237 (F := F) = k0_pay11 := View.readCov_unit_zero _ hz _ _
  have e3 : body_first.sl.v244 (F := F) = k0_pay13 := View.readCov_unit_zero _ hz _ _
  have e4 : body_first.sl.v249 (F := F) = k0_pay14 := View.readCov_unit_zero _ hz _ _
  have e5 : body_first.sl.v254 (F := F) = k0_pay15 := View.readCov_unit_zero _ hz _ _
  have e6 : body_first.sl.v263 (F := F) = k0_pay16 := View.readCov_unit_zero _ hz _ _
  have r0 : body_first.sl.r i X = score i X := rfl
  have r1 : body_first.sl.r_1 (F := F) i X = k0_pay57 (F := F) X (k0_pay17 i) (k0_pay18 i) := rfl
  have r2 : body_first.sl.r_2 (F := F) i X = k0_pay58 (F := F) X (k0_pay18 i) k0_pay10 := by
    rw [← e0]; rfl
  have r3 : body_first.sl.r_3 i X = k0_pay66 (k0_pay17 i) (k0_pay53 X) (score i X) k0_pay11 k0_pay14 := by
    rw [← e2, ← e4]; rfl
  rw [w_cc0_scratch0, w_cc0_scratch1, w_cc0_scratch2, w_cc0_scratch3, w_cc0_scratch4, w_cc0_scratch5, w_cc0_scratch6]
  rw [r0, r1, r2, r3, e0, e1, e2, e3, e5, e6]
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iexact S6

/-- A load of the whole of scratch buffer 0. -/
theorem ld_cc0_scratch0 (f : Vec F S128x1 .f32) :
    (Memref.whole cc0_scratch0).view.readAt (Elt F) (Rect.unit ![0, 0] S128x1.size inb_S128x1_S128x1_0_0).toLoadRect f = f :=
  Memref.readAt_unit_zero (Elt F) cc0_scratch0 hz inb_S128x1_S128x1_0_0 f

/-- A load of the whole of scratch buffer 1. -/
theorem ld_cc0_scratch1 (f : Vec F S128x1 .i32) :
    (Memref.whole cc0_scratch1).view.readAt (Elt F) (Rect.unit ![0, 0] S128x1.size inb_S128x1_S128x1_0_0).toLoadRect f = f :=
  Memref.readAt_unit_zero (Elt F) cc0_scratch1 hz inb_S128x1_S128x1_0_0 f

/-- A load of the whole of scratch buffer 2. -/
theorem ld_cc0_scratch2 (f : Vec F S128x1 .f32) :
    (Memref.whole cc0_scratch2).view.readAt (Elt F) (Rect.unit ![0, 0] S128x1.size inb_S128x1_S128x1_0_0).toLoadRect f = f :=
  Memref.readAt_unit_zero (Elt F) cc0_scratch2 hz inb_S128x1_S128x1_0_0 f

/-- A load of the whole of scratch buffer 3. -/
theorem ld_cc0_scratch3 (f : Vec F S128x1 .i32) :
    (Memref.whole cc0_scratch3).view.readAt (Elt F) (Rect.unit ![0, 0] S128x1.size inb_S128x1_S128x1_0_0).toLoadRect f = f :=
  Memref.readAt_unit_zero (Elt F) cc0_scratch3 hz inb_S128x1_S128x1_0_0 f

/-- A load of the whole of scratch buffer 4. -/
theorem ld_cc0_scratch4 (f : Vec F S128x1 .f32) :
    (Memref.whole cc0_scratch4).view.readAt (Elt F) (Rect.unit ![0, 0] S128x1.size inb_S128x1_S128x1_0_0).toLoadRect f = f :=
  Memref.readAt_unit_zero (Elt F) cc0_scratch4 hz inb_S128x1_S128x1_0_0 f

/-- A load of the whole of scratch buffer 5. -/
theorem ld_cc0_scratch5 (f : Vec F S128x1 .f32) :
    (Memref.whole cc0_scratch5).view.readAt (Elt F) (Rect.unit ![0, 0] S128x1.size inb_S128x1_S128x1_0_0).toLoadRect f = f :=
  Memref.readAt_unit_zero (Elt F) cc0_scratch5 hz inb_S128x1_S128x1_0_0 f

/-- A load of the whole of scratch buffer 6. -/
theorem ld_cc0_scratch6 (f : Vec F S128x1 .f32) :
    (Memref.whole cc0_scratch6).view.readAt (Elt F) (Rect.unit ![0, 0] S128x1.size inb_S128x1_S128x1_0_0).toLoadRect f = f :=
  Memref.readAt_unit_zero (Elt F) cc0_scratch6 hz inb_S128x1_S128x1_0_0 f

/-- The body at a point between: one step from what the scratch buffers held. -/
theorem body_mid (c : Dev nD) (i : grid0.Coords) (m : Memref sig .tc .vmem S128x2048 .f32) (hm : m.IsWhole)
    (h1 : (i 0).val ≠ 0) (h2 : (i 0).val ≠ 48) (B : Buf (Elt F) (m.view.loc (c : Thread nD τ))) (X : FVec F S128x2048 .f32)
    (hB : m.view.readAt (Elt F) (Rect.unit ![0, 0] S128x2048.size inb_S128x2048_S128x2048_0_0).toLoadRect B = X)
    (O1 : IVec S128x1 32) (O2 : FVec F S128x1 .f32) (O3 : FVec F S1x1 .f32) (O4 : IVec S1x1 32) (s : Scr F)
    (K : PUnit → sProp 𝕄) :
    iprop(held c m B O1 O2 O3 O4 s ∗ (held c m B O1 O2 O3 O4 (Scr.step i X s)  -∗ K ⟨⟩))
      ⊢ wp frame (wpE (defs₀ (F := F)) Variants.none c none) Set.univ (prog i m hm) K := by
  have hc1 : ¬ Scalar.cmpi .ne (Scalar.extui (Scalar.cmpi .eq (BitVec.ofNat 32 (i 0).val) 0#32) : BitVec 32) 0#32 = 1#1 :=
    fun h => h1 ((first_iff i).1 h)
  have hc2 : ¬ k0_cond2 i = 1#1 := fun h => h2 ((last_iff i).1 h)
  have l0 := ld_cc0_scratch0 s.gxv
  have l1 := ld_cc0_scratch1 (F := F) s.gxi
  have l2 := ld_cc0_scratch2 s.gsv
  have l3 := ld_cc0_scratch3 (F := F) s.gsi
  have l4 := ld_cc0_scratch4 s.gsl
  have l5 := ld_cc0_scratch5 s.rs
  have l6 := ld_cc0_scratch6 s.ea
  iintro ⟨⟨H0, H1, H2, H3, H4, S0, S1, S2, S3, S4, S5, S6⟩, Hk⟩
  sl_exec
  sl_step
  iapply Hk
  rw [w_cc0_scratch0, w_cc0_scratch1, w_cc0_scratch2, w_cc0_scratch3, w_cc0_scratch4, w_cc0_scratch5, w_cc0_scratch6]
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iexact S6

/-- The body at the last point: one step, and the four results stored from the contents after it. -/
theorem body_last (c : Dev nD) (i : grid0.Coords) (m : Memref sig .tc .vmem S128x2048 .f32) (hm : m.IsWhole)
    (h2 : (i 0).val = 48) (B : Buf (Elt F) (m.view.loc (c : Thread nD τ))) (X : FVec F S128x2048 .f32)
    (hB : m.view.readAt (Elt F) (Rect.unit ![0, 0] S128x2048.size inb_S128x2048_S128x2048_0_0).toLoadRect B = X)
    (O1 : IVec S128x1 32) (O2 : FVec F S128x1 .f32) (O3 : FVec F S1x1 .f32) (O4 : IVec S1x1 32) (s : Scr F)
    (K : PUnit → sProp 𝕄) :
    iprop(held c m B O1 O2 O3 O4 s ∗ (held c m B (Scr.step i X s).gsi (Scr.step i X s).lg (Scr.step i X s).en (Scr.step i X s).mt (Scr.step i X s)  -∗ K ⟨⟩))
      ⊢ wp frame (wpE (defs₀ (F := F)) Variants.none c none) Set.univ (prog i m hm) K := by
  have hc1 : ¬ Scalar.cmpi .ne (Scalar.extui (Scalar.cmpi .eq (BitVec.ofNat 32 (i 0).val) 0#32) : BitVec 32) 0#32 = 1#1 :=
    fun h => by
    have := (first_iff i).1 h; omega
  have hc2 : k0_cond2 i = 1#1 := (last_iff i).2 h2
  have l0 := ld_cc0_scratch0 s.gxv
  have l1 := ld_cc0_scratch1 (F := F) s.gxi
  have l2 := ld_cc0_scratch2 s.gsv
  have l3 := ld_cc0_scratch3 (F := F) s.gsi
  have l4 := ld_cc0_scratch4 s.gsl
  have l5 := ld_cc0_scratch5 s.rs
  have l6 := ld_cc0_scratch6 s.ea
  iintro ⟨⟨H0, H1, H2, H3, H4, S0, S1, S2, S3, S4, S5, S6⟩, Hk⟩
  sl_exec
  sl_step
  iapply Hk
  have e0 : body_last.sl.v276 (F := F) i X s = (Scr.step i X s).gsi := View.readCov_unit_zero _ hz _ _
  have e1 : body_last.sl.v278 i X s = (Scr.step i X s).gsl := View.readCov_unit_zero _ hz _ _
  have e2 : body_last.sl.v279 i X s = (Scr.step i X s).rs := View.readCov_unit_zero _ hz _ _
  have e3 : body_last.sl.v283 i X s = (Scr.step i X s).ea := View.readCov_unit_zero _ hz _ _
  have e4 : body_last.sl.v293 (F := F) i X s = (Scr.step i X s).gxi := View.readCov_unit_zero _ hz _ _
  have b1 : (Memref.whole cc0_scratch1).view.writes (Elt F) s.gxi (body_last.sl.S1_1 i X s) = (Scr.step i X s).gxi :=
    w_cc0_scratch1 _ _ _
  have b3 : (Memref.whole cc0_scratch3).view.writes (Elt F) s.gsi (body_last.sl.S3_1 i X s) = (Scr.step i X s).gsi :=
    w_cc0_scratch3 _ _ _
  have b4 : (Memref.whole cc0_scratch4).view.writes (Elt F) s.gsl (body_last.sl.S4_1 i X s) = (Scr.step i X s).gsl :=
    w_cc0_scratch4 _ _ _
  have b5 : (Memref.whole cc0_scratch5).view.writes (Elt F) s.rs (body_last.sl.S5_1 i X s) = (Scr.step i X s).rs :=
    w_cc0_scratch5 _ _ _
  have b6 : (Memref.whole cc0_scratch6).view.writes (Elt F) s.ea (body_last.sl.S6_1 i X s) = (Scr.step i X s).ea :=
    w_cc0_scratch6 _ _ _
  rw [w_cc0_scratch0, b1, w_cc0_scratch2, b3, b4, b5, b6]
  rw [w_cc0_stg1_0, w_cc0_stg2_0, w_cc0_stg3_0, w_cc0_stg4_0, e0, e1, e2, e3, e4]
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iexact S6

end Cert.KernelIdeal.Body
-- ==== Proof.Threefry.lean ====
module

public import Idealize.ShloMosaic.PureOps

/-!
The random bits: the threefry-2x32 function of a pair of 32-bit words, as both programs compute it.
-/

@[expose] public section

namespace Cert.Threefry

/-- One round: the second word, rotated left by `l` (and so right by `r = 32 - l`), is xored into the sum of the two. -/
def rnd (l r : BitVec 32) (s : BitVec 32 × BitVec 32) : BitVec 32 × BitVec 32 :=
  (s.1 + s.2, (s.1 + s.2) ^^^ (s.2 <<< l ||| s.2 >>> r))

/-- A key injection: `k` is added to the first word, `k'` and the group's number `n` to the second. -/
def inj (k k' n : BitVec 32) (s : BitVec 32 × BitVec 32) : BitVec 32 × BitVec 32 := (s.1 + k, s.2 + k' + n)

/-- The four rounds of the groups 1, 3 and 5. -/
def oddTurn (s : BitVec 32 × BitVec 32) : BitVec 32 × BitVec 32 := rnd 6 26 (rnd 26 6 (rnd 15 17 (rnd 13 19 s)))

/-- The four rounds of the groups 2 and 4. -/
def evenTurn (s : BitVec 32 × BitVec 32) : BitVec 32 × BitVec 32 := rnd 24 8 (rnd 16 16 (rnd 29 3 (rnd 17 15 s)))

/-- The five groups, each followed by its injection; `k0`, `k1` are the keys and `k2` the word made from them. -/
def groups (k0 k1 k2 : BitVec 32) (s : BitVec 32 × BitVec 32) : BitVec 32 × BitVec 32 :=
  inj k2 k0 5 (oddTurn (inj k1 k2 4 (evenTurn (inj k0 k1 3 (oddTurn (inj k2 k0 2 (evenTurn (inj k1 k2 1 (oddTurn s)))))))))

/-- The word drawn for position `n` with the keys 0 and 42: the two result words xored. -/
def draw (n : BitVec 32) : BitVec 32 :=
  let s := groups 0 42 466689008 (0, n + 42)
  s.1 ^^^ s.2

end Cert.Threefry
-- ==== Proof.KernelDraw.lean ====
module

public import proofs.«01_k».proof.Proof.Gen.KernelIdeal.Skeleton
public import proofs.«01_k».proof.Proof.Threefry

/-!
The kernel's random bits: at each lane of a block they are the word drawn for the lane's position in the array.
-/

@[expose] public section

noncomputable section

namespace Cert.KernelIdeal.Draw

open Cert.KernelIdeal Cert.KernelIdeal.Gen Cert.Threefry
open Idealize.ShloMosaic

/-- A block of 32-bit words. -/
abbrev Words : Type := IVec S128x2048 32

/-- One round on two blocks of words. -/
def vrnd (l r : BitVec 32) (p : Words × Words) : Words × Words :=
  (addi p.1 p.2, xori (addi p.1 p.2) (ori (shli p.2 (broadcast S128x2048 l)) (shrui p.2 (broadcast S128x2048 r))))

/-- A key injection on two blocks of words. -/
def vinj (k c : BitVec 32) (p : Words × Words) : Words × Words :=
  (addi p.1 (broadcast S128x2048 k), addi p.2 (broadcast S128x2048 c))

/-- The two words at a lane. -/
def lane (j : S128x2048.Idx) (p : Words × Words) : BitVec 32 × BitVec 32 := (p.1 j, p.2 j)

/-- A round of blocks is a round at every lane. -/
theorem lane_vrnd (j : S128x2048.Idx) (l r : BitVec 32) (hl : l.toNat < 32) (hr : r.toNat < 32) (p : Words × Words) :
    lane j (vrnd l r p) = rnd l r (lane j p) := by
  have el : shli p.2 (broadcast S128x2048 l) j = p.2 j <<< l := if_pos hl
  have er : shrui p.2 (broadcast S128x2048 r) j = p.2 j >>> r := if_pos hr
  show (p.1 j + p.2 j, (p.1 j + p.2 j) ^^^ (shli p.2 (broadcast S128x2048 l) j ||| shrui p.2 (broadcast S128x2048 r) j)) = _
  rw [el, er]
  rfl

/-- An injection of blocks is an injection at every lane. -/
theorem lane_vinj (j : S128x2048.Idx) (k k' n c : BitVec 32) (hc : k' + n = c) (p : Words × Words) :
    lane j (vinj k c p) = inj k k' n (lane j p) := by
  subst hc
  show (p.1 j + k, p.2 j + (k' + n)) = (p.1 j + k, p.2 j + k' + n)
  rw [BitVec.add_assoc]

/-- Four rounds of blocks. -/
def vodd (p : Words × Words) : Words × Words := vrnd 6#32 26#32 (vrnd 26#32 6#32 (vrnd 15#32 17#32 (vrnd 13#32 19#32 p)))

/-- The other four rounds of blocks. -/
def veven (p : Words × Words) : Words × Words := vrnd 24#32 8#32 (vrnd 16#32 16#32 (vrnd 29#32 3#32 (vrnd 17#32 15#32 p)))

/-- An odd turn of the blocks, at a lane, -/
theorem lane_vodd (j : S128x2048.Idx) (p : Words × Words) : lane j (vodd p) = oddTurn (lane j p) := by
  unfold vodd oddTurn
  rw [lane_vrnd _ _ _ (by decide) (by decide), lane_vrnd _ _ _ (by decide) (by decide),
    lane_vrnd _ _ _ (by decide) (by decide), lane_vrnd _ _ _ (by decide) (by decide)]
  rfl

/-- and an even turn. -/
theorem lane_veven (j : S128x2048.Idx) (p : Words × Words) : lane j (veven p) = evenTurn (lane j p) := by
  unfold veven evenTurn
  rw [lane_vrnd _ _ _ (by decide) (by decide), lane_vrnd _ _ _ (by decide) (by decide),
    lane_vrnd _ _ _ (by decide) (by decide), lane_vrnd _ _ _ (by decide) (by decide)]
  rfl

/-- The bits of a block at point `i`, as the body computes them. -/
def bits (i : grid0.Coords) : Words :=
  k0_pay52 (k0_pay50 (k0_pay37 (k0_pay25 i) (k0_pay26 i) (k0_pay27 i) 26#32) (k0_pay38 (k0_pay25 i) (k0_pay26 i) (k0_pay27 i) 26#32))
    (k0_pay51 (k0_pay37 (k0_pay25 i) (k0_pay26 i) (k0_pay27 i) 26#32) (k0_pay38 (k0_pay25 i) (k0_pay26 i) (k0_pay27 i) 26#32))

/-- The two blocks the body starts from. -/
abbrev start (i : grid0.Coords) : Words × Words := (broadcast S128x2048 0#32, k0_pay19 i)

section first
variable (i : grid0.Coords)

/-- A round of the hash on two blocks of words. -/
theorem pair_20 : (k0_pay20 i, k0_pay21 i) = vrnd 13#32 19#32 (start i) := rfl
/-- A round of the hash on two blocks of words. -/
theorem pair_22 : (k0_pay22 i, k0_pay23 i) = vrnd 15#32 17#32 (k0_pay20 i, k0_pay21 i) := rfl
/-- A round of the hash on two blocks of words. -/
theorem pair_24 : (k0_pay24 i, k0_pay25 i) = vrnd 26#32 6#32 (k0_pay22 i, k0_pay23 i) := rfl

/-- The first group: its sum and its second word after the injection. -/
theorem pair_28 : (addi (k0_pay26 i) (broadcast S128x2048 42#32), k0_pay28 (k0_pay25 i) (k0_pay26 i) (k0_pay27 i) 26#32)
    = vinj 42#32 466689009#32 (vodd (start i)) := by
  have e : (addi (k0_pay26 i) (broadcast S128x2048 42#32), k0_pay28 (k0_pay25 i) (k0_pay26 i) (k0_pay27 i) 26#32)
      = vinj 42#32 466689009#32 (vrnd 6#32 26#32 (k0_pay24 i, k0_pay25 i)) := rfl
  rw [e, pair_24, pair_22, pair_20]
  rfl
end first

section second
variable (a b c : Words) (w : BitVec 32)

/-- A round of the hash on two blocks of words. -/
theorem pair_29 : (k0_pay29 a b c w, k0_pay30 a b c w)
    = vrnd 17#32 15#32 (addi b (broadcast S128x2048 42#32), k0_pay28 a b c w) := rfl
/-- A round of the hash on two blocks of words. -/
theorem pair_31 : (k0_pay31 a b c w, k0_pay32 a b c w) = vrnd 29#32 3#32 (k0_pay29 a b c w, k0_pay30 a b c w) := rfl
/-- A round of the hash on two blocks of words. -/
theorem pair_33 : (k0_pay33 a b c w, k0_pay34 a b c w) = vrnd 16#32 16#32 (k0_pay31 a b c w, k0_pay32 a b c w) := rfl

/-- The second group after its injection. -/
theorem pair_36 : (addi (k0_pay35 a b c w) (broadcast S128x2048 466689008#32), k0_pay36 a b c w)
    = vinj 466689008#32 2#32 (veven (addi b (broadcast S128x2048 42#32), k0_pay28 a b c w)) := by
  have e : (addi (k0_pay35 a b c w) (broadcast S128x2048 466689008#32), k0_pay36 a b c w)
      = vinj 466689008#32 2#32 (vrnd 24#32 8#32 (k0_pay33 a b c w, k0_pay34 a b c w)) := rfl
  rw [e, pair_33, pair_31, pair_29]
  rfl

/-- The first round of the third group. -/
theorem pair_37 : (k0_pay37 a b c w, k0_pay39 (k0_pay37 a b c w) (k0_pay38 a b c w))
    = vrnd 13#32 19#32 (addi (k0_pay35 a b c w) (broadcast S128x2048 466689008#32), k0_pay36 a b c w) := rfl
end second

section third
variable (a b : Words)

/-- A round of the hash on two blocks of words. -/
theorem pair_40 : (k0_pay40 a b, k0_pay41 a b) = vrnd 15#32 17#32 (a, k0_pay39 a b) := rfl
/-- A round of the hash on two blocks of words. -/
theorem pair_42 : (k0_pay42 a b, k0_pay43 a b) = vrnd 26#32 6#32 (k0_pay40 a b, k0_pay41 a b) := rfl
/-- A round of the hash on two blocks of words. -/
theorem pair_45 : (addi (k0_pay44 a b) (broadcast S128x2048 0#32), k0_pay45 a b)
    = vinj 0#32 45#32 (vrnd 6#32 26#32 (k0_pay42 a b, k0_pay43 a b)) := rfl
/-- A round of the hash on two blocks of words. -/
theorem pair_46 : (k0_pay46 a b, k0_pay47 a b)
    = vrnd 17#32 15#32 (addi (k0_pay44 a b) (broadcast S128x2048 0#32), k0_pay45 a b) := rfl
/-- A round of the hash on two blocks of words. -/
theorem pair_48 : (k0_pay48 a b, k0_pay49 a b) = vrnd 29#32 3#32 (k0_pay46 a b, k0_pay47 a b) := rfl
/-- A round of the hash on two blocks of words. -/
theorem pair_50 : (k0_pay50 a b, xori (k0_pay50 a b) (k0_pay51 a b)) = vrnd 16#32 16#32 (k0_pay48 a b, k0_pay49 a b) := rfl

/-- The third group and three rounds of the fourth. -/
theorem pair_third : (k0_pay50 a b, xori (k0_pay50 a b) (k0_pay51 a b))
    = vrnd 16#32 16#32 (vrnd 29#32 3#32 (vrnd 17#32 15#32 (vinj 0#32 45#32
        (vrnd 6#32 26#32 (vrnd 26#32 6#32 (vrnd 15#32 17#32 (a, k0_pay39 a b))))))) := by
  rw [pair_50, pair_48, pair_46, pair_45, pair_42, pair_40]

end third

/-- The last round of the fourth group, the fifth group, and the two words xored. -/
theorem pay52_eq (a b : Words) : k0_pay52 a b = (fun s : Words × Words => xori s.1 s.2)
    (vinj 466689008#32 5#32 (vodd (vinj 42#32 466689012#32 (vrnd 24#32 8#32 (a, xori a b))))) := rfl

/-- The bits at a lane are the word drawn for `n`, where the lane's count is `n + 42`. -/
theorem bits_lane (i : grid0.Coords) (j : S128x2048.Idx) (n : BitVec 32) (hn : k0_pay19 i j = n + 42#32) :
    bits i j = draw n := by
  have h : bits i = (fun s : Words × Words => xori s.1 s.2)
      (vinj 466689008#32 5#32 (vodd (vinj 42#32 466689012#32 (veven (vinj 0#32 45#32 (vodd
        (vinj 466689008#32 2#32 (veven (vinj 42#32 466689009#32 (vodd (start i)))))))))))  := by
    unfold bits
    rw [pay52_eq, pair_third, pair_37, pair_36, pair_28]
    rfl
  have e : lane j (start i) = (0, n + 42) := by
    show (0#32, k0_pay19 i j) = _
    rw [hn]
    rfl
  have g : lane j (vinj 466689008#32 5#32 (vodd (vinj 42#32 466689012#32 (veven (vinj 0#32 45#32 (vodd
      (vinj 466689008#32 2#32 (veven (vinj 42#32 466689009#32 (vodd (start i))))))))))) = groups 0 42 466689008 (0, n + 42) := by
    rw [lane_vinj j 466689008#32 0#32 5#32 5#32 (by decide), lane_vodd,
      lane_vinj j 42#32 466689008#32 4#32 466689012#32 (by decide), lane_veven,
      lane_vinj j 0#32 42#32 3#32 45#32 (by decide), lane_vodd,
      lane_vinj j 466689008#32 0#32 2#32 2#32 (by decide), lane_veven,
      lane_vinj j 42#32 466689008#32 1#32 466689009#32 (by decide), lane_vodd, e]
    rfl
  have x : ∀ s : Words × Words, (fun s : Words × Words => xori s.1 s.2) s j = (lane j s).1 ^^^ (lane j s).2 := fun _ => rfl
  rw [h, x, g]
  rfl

end Cert.KernelIdeal.Draw
-- ==== Proof.Best.lean ====
module

public import Mathlib.Data.EReal.Basic
public import Mathlib.Data.Fintype.Basic
public import Mathlib.Data.Finset.Fold
public import Mathlib.Data.Finset.Lattice.Fold
public import Mathlib.Order.Fin.Basic

@[expose] public section

noncomputable section

namespace Cert.Best

variable (f : ℕ → EReal)

/-- `o` is the first index below `n` at which `f` is greatest, or nothing where `f` is `−∞` at all of them. -/
def Is (n : ℕ) : Option ℕ → Prop
  | none => ∀ k < n, f k = ⊥
  | some i => i < n ∧ ⊥ < f i ∧ (∀ k < n, f k ≤ f i) ∧ ∀ k < i, f k < f i

/-- The first index below `n` at which `f` is greatest, found by a scan that starts from `−∞`. -/
def best : ℕ → Option ℕ
  | 0 => none
  | n + 1 => if (best n).elim ⊥ f < f n then some n else best n

variable {f}

/-- The greatest value found bounds every value scanned. -/
theorem Is.le {n : ℕ} {o : Option ℕ} (h : Is f n o) {k : ℕ} (hk : k < n) : f k ≤ o.elim ⊥ f := by
  cases o with
  | none => exact (h k hk).le
  | some i => exact h.2.2.1 k hk

/-- The scan finds the first greatest index. -/
theorem is_best (n : ℕ) : Is f n (best f n) := by
  induction n with
  | zero => intro k hk; omega
  | succ n ih =>
    by_cases h : (best f n).elim ⊥ f < f n
    · rw [best, if_pos h]
      refine ⟨n.lt_succ_self, bot_le.trans_lt h, fun k hk => ?_, fun k hk => (ih.le hk).trans_lt h⟩
      rcases Nat.lt_succ_iff_lt_or_eq.mp hk with hk | rfl
      · exact (ih.le hk).trans h.le
      · exact le_rfl
    · rw [best, if_neg h]
      have h' := not_lt.mp h
      revert ih h'
      cases best f n with
      | none =>
        intro ih h' k hk
        rcases Nat.lt_succ_iff_lt_or_eq.mp hk with hk | rfl
        · exact ih k hk
        · exact le_bot_iff.mp h'
      | some i =>
        intro ih h'
        refine ⟨ih.1.trans n.lt_succ_self, ih.2.1, fun k hk => ?_, ih.2.2.2⟩
        rcases Nat.lt_succ_iff_lt_or_eq.mp hk with hk | rfl
        · exact ih.2.2.1 k hk
        · exact h'

/-- There is only one first greatest index. -/
theorem Is.unique {n : ℕ} {o o' : Option ℕ} (h : Is f n o) (h' : Is f n o') : o = o' := by
  cases o with
  | none => cases o' with
    | none => rfl
    | some j => exact absurd (h j h'.1) h'.2.1.ne'
  | some i => cases o' with
    | none => exact absurd (h' i h.1) h.2.1.ne'
    | some j =>
      rcases lt_trichotomy i j with hij | rfl | hij
      · exact absurd (h'.2.2.2 i hij) (not_lt.mpr (h.2.2.1 j h'.1))
      · rfl
      · exact absurd (h.2.2.2 j hij) (not_lt.mpr (h'.2.2.1 i h.1))

/-- Whatever is the first greatest index is what the scan finds. -/
theorem Is.eq_best {n : ℕ} {o : Option ℕ} (h : Is f n o) : best f n = o := (is_best n).unique h

/-- Scanning a block of `L` lanes after the first `N` indices. The lanes below `M` hold `f`, the rest `−∞`; `bv` is the
    block's greatest lane. What is kept beside the maximum — `new` of the block's first greatest lane where the block
    exceeds the maximum so far, else what was kept before — is what belongs to the first greatest index below `M`. -/
theorem block {N M L : ℕ} {g : Fin L → EReal} (hNM : N ≤ M) (hML : M ≤ N + L)
    (hg : ∀ j : Fin L, N + j.val < M → g j = f (N + j.val)) (hb : ∀ j : Fin L, M ≤ N + j.val → g j = ⊥)
    {bv : EReal} (hle : ∀ j, g j ≤ bv) (hat : bv ≠ ⊥ → ∃ j, g j = bv)
    {β : Type} {new d : β} {val : ℕ → β}
    (hnew : ∀ j : Fin L, N + j.val < M → g j = bv → (∀ i < j, g i ≠ bv) → new = val (N + j.val)) :
    (if (best f N).elim ⊥ f < bv then new else (best f N).elim d val) = (best f M).elim d val := by
  have old := is_best (f := f) N
  split
  · rename_i h
    have hbv : ⊥ < bv := bot_le.trans_lt h
    obtain ⟨j, hj, hfirst⟩ : ∃ j, g j = bv ∧ ∀ i < j, g i ≠ bv := by
      obtain ⟨j, hj, hmin⟩ := WellFounded.has_min (wellFounded_lt (α := Fin L)) {j | g j = bv} (hat hbv.ne')
      exact ⟨j, hj, fun i hi he => hmin i he hi⟩
    have hjM : N + j.val < M := by
      by_contra hc
      exact hbv.ne' (hj.symm.trans (hb j (not_lt.mp hc)))
    have hfj : f (N + j.val) = bv := (hg j hjM).symm.trans hj
    have lane : ∀ k, N ≤ k → k < M → ∃ i : Fin L, N + i.val = k ∧ g i = f k := fun k h1 h2 =>
      ⟨⟨k - N, by omega⟩, by simp only; omega, by
        rw [hg _ (by simp only; omega)]; congr 1; simp only; omega⟩
    have hs : Is f M (some (N + j.val)) := by
      refine ⟨hjM, hfj ▸ hbv, fun k hk => ?_, fun k hk => ?_⟩
      · rw [hfj]
        rcases lt_or_ge k N with hkN | hkN
        · exact (old.le hkN).trans h.le
        · obtain ⟨i, -, hi⟩ := lane k hkN hk
          exact hi ▸ hle i
      · rw [hfj]
        rcases lt_or_ge k N with hkN | hkN
        · exact (old.le hkN).trans_lt h
        · obtain ⟨i, hik, hi⟩ := lane k hkN (hk.trans hjM)
          refine hi ▸ lt_of_le_of_ne (hle i) (hfirst i ?_)
          rw [Fin.lt_def]; omega
    rw [hs.eq_best, hnew j hjM hj hfirst]
    rfl
  · rename_i h
    have hs : Is f M (best f N) := by
      have h' := not_lt.mp h
      have up : ∀ k < M, f k ≤ (best f N).elim ⊥ f := fun k hk => by
        rcases lt_or_ge k N with hkN | hkN
        · exact old.le hkN
        · have e : g ⟨k - N, by omega⟩ = f k := by
            rw [hg _ (by simp only; omega)]; congr 1; simp only; omega
          exact e ▸ (hle _).trans h'
      revert old up
      cases best f N with
      | none => exact fun _ up k hk => le_bot_iff.mp (up k hk)
      | some i => exact fun old up => ⟨old.1.trans_le hNM, old.2.1, up, old.2.2.2⟩
    rw [hs.eq_best]

/-- Where some value below `n` exceeds `−∞`, the scan finds an index. -/
theorem best_some {n : ℕ} {k : ℕ} (hk : k < n) (h : ⊥ < f k) : ∃ i, best f n = some i := by
  have hs := is_best (f := f) n
  revert hs
  cases best f n with
  | none => exact fun hs => absurd (hs k hk) h.ne'
  | some i => exact fun _ => ⟨i, rfl⟩

/-- The maximum of finitely many values, started from `−∞`: it bounds them, -/
theorem le_fold {L : ℕ} (g : Fin L → EReal) (j : Fin L) : g j ≤ Finset.univ.fold max ⊥ g :=
  (Finset.le_fold_max (g j)).mpr (.inr ⟨j, Finset.mem_univ _, le_rfl⟩)

/-- and is one of them unless it is `−∞`. -/
theorem fold_mem {L : ℕ} (g : Fin L → EReal) (h : Finset.univ.fold max ⊥ g ≠ ⊥) :
    ∃ j, g j = Finset.univ.fold max ⊥ g := by
  rcases (Finset.le_fold_max _).mp (le_refl (Finset.univ.fold max ⊥ g)) with h' | ⟨j, -, hj⟩
  · exact absurd (le_bot_iff.mp h') h
  · exact ⟨j, le_antisymm (le_fold g j) hj⟩

/-- The maximum of values that are `−∞` but at one place is the value there. -/
theorem fold_single {L : ℕ} (g : Fin L → EReal) (j : Fin L) (h : ∀ i, i ≠ j → g i = ⊥) :
    Finset.univ.fold max ⊥ g = g j := by
  refine le_antisymm ?_ (le_fold g j)
  refine (Finset.fold_max_le (g j)).mpr ⟨bot_le, fun i _ => ?_⟩
  rcases eq_or_ne i j with rfl | hi
  · exact le_rfl
  · exact (h i hi) ▸ bot_le

end Cert.Best
-- ==== Proof.Score.lean ====
module

public import Idealize.ShloMosaic.PureOps.Ideal.Laws

/-!
The sampling score of a weight: its logarithm plus Gumbel noise made from a random word, over the extended reals.
-/

@[expose] public section

noncomputable section

namespace Cert.Score

open Idealize.ShloMosaic

/-- The smallest normal number, as a value. -/
def tiny : EReal := Ideal.ofBits .f32 0x00800000#32

/-- The number 1.0, as a value. -/
def one : EReal := Ideal.ofBits .f32 0x3F800000#32

/-- The fraction of `[0, 1)` a word gives. -/
def frac (w : BitVec 32) : EReal := Ideal.ofBits .f32 (w >>> 9#32 ||| 1065353216#32) - one

/-- The uniform number a word gives, kept at `tiny` or above. -/
def unif (w : BitVec 32) : EReal := max tiny (frac w * one + tiny)

/-- The Gumbel noise a word gives. -/
def noise (w : BitVec 32) : EReal := -Ideal.log (-Ideal.log (unif w))

/-- The score of the weight `x` with the random word `w`. -/
def score (x : EReal) (w : BitVec 32) : EReal := Ideal.log x + noise w

/-- The least uniform draw is positive. -/
theorem tiny_pos : 0 < tiny := by
  unfold tiny
  simp only [Ideal.ofBits, Ideal.ieee]
  simp
  rw [← EReal.coe_mul, EReal.coe_pos]
  positivity

/-- The constant one is 1. -/
theorem one_eq : one = 1 := by
  unfold one
  simp only [Ideal.ofBits, Ideal.ieee]
  simp
  rw [← EReal.coe_mul, ← EReal.coe_one]
  norm_num

/-- The word of minus infinity is the least extended real. -/
theorem neg_inf : Ideal.ofBits .f32 0xFF800000#32 = ⊥ := by simp [Ideal.ofBits, Ideal.ieee]

/-- The logarithm exceeds `−∞` at the positive values. -/
theorem bot_lt_log {x : EReal} (h : 0 < x) : ⊥ < Ideal.log x := by
  induction x using EReal.rec with
  | bot => exact absurd h (by simp)
  | top => simp
  | coe r =>
    have hr : ¬ r ≤ 0 := not_le.mpr (EReal.coe_pos.mp h)
    rw [Ideal.log_coe, if_neg hr]
    exact EReal.bot_lt_coe _

/-- The logarithm is `+∞` only there. -/
theorem log_lt_top {x : EReal} (h : x < ⊤) : Ideal.log x < ⊤ := by
  induction x using EReal.rec with
  | bot => simp
  | top => exact absurd h (lt_irrefl _)
  | coe r =>
    rw [Ideal.log_coe]
    split
    · exact bot_lt_top
    · exact EReal.coe_lt_top _

/-- The noise exceeds `−∞`. -/
theorem bot_lt_noise (w : BitVec 32) : ⊥ < noise w := by
  have h1 : ⊥ < Ideal.log (unif w) := bot_lt_log (tiny_pos.trans_le (le_max_left _ _))
  have h2 : -Ideal.log (unif w) < ⊤ := by
    rw [lt_top_iff_ne_top, Ne, EReal.neg_eq_top_iff]; exact h1.ne'
  have h3 := log_lt_top h2
  unfold noise
  rw [bot_lt_iff_ne_bot, Ne, EReal.neg_eq_bot_iff]
  exact h3.ne

/-- The score of a positive weight exceeds `−∞`. -/
theorem bot_lt_score {x : EReal} (h : 0 < x) (w : BitVec 32) : ⊥ < score x w :=
  EReal.bot_lt_add_iff.mpr ⟨bot_lt_log h, bot_lt_noise w⟩

/-- Drawing in `[0, 1)` first, with the bound 0 kept, and scaling that by one gives the same number. -/
theorem unif_eq (w : BitVec 32) : max tiny (max 0 (frac w * (one - 0) + 0) * one + tiny) = unif w := by
  unfold unif
  rw [one_eq, sub_zero, add_zero, mul_one, mul_one]
  rcases le_total 0 (frac w) with h | h
  · rw [max_eq_right h]
  · rw [max_eq_left h, zero_add, max_self]
    exact (max_eq_left ((add_le_add_left h tiny).trans (zero_add tiny).le)).symm

end Cert.Score
-- ==== Proof.KernelLane.lean ====
module

public import proofs.«01_k».proof.Proof.Gen.KernelIdeal.Skeleton
public import proofs.«01_k».proof.Proof.KernelBody
public import proofs.«01_k».proof.Proof.KernelDraw
public import proofs.«01_k».proof.Proof.Best
public import proofs.«01_k».proof.Proof.Score
public import Idealize.ShloMosaic.Lib.ValueIdx
public import Idealize.ShloMosaic.Lib.SortNet.Extract

/-!
What the kernel's vector operations give at a lane or a row of a block, over the extended reals.
-/

@[expose] public section

noncomputable section

namespace Cert.KernelIdeal.Lane

open Cert.KernelIdeal Cert.KernelIdeal.Gen Cert.KernelIdeal.Body
open Idealize.ShloMosaic Idealize.ShloMosaic.ValueIdx

/-- A block of numbers. -/
abbrev Blk : Type := FVec Ideal S128x2048 .f32
/-- A number per row. -/
abbrev Col : Type := FVec Ideal S128x1 .f32

/-- A column's number at a lane of its block. -/
theorem pay17_lane (i : grid0.Coords) (r : Fin 128) (j : Fin 2048) :
    k0_pay17 i (ix2 r j) = BitVec.ofNat 32 (2048 * (i 0).val + j.val) := by
  show BitVec.ofNat 32 (0 * 2048 + j.val) + BitVec.ofNat 32 (i 0).val * 2048#32 = _
  rw [show (2048#32 : BitVec 32) = BitVec.ofNat 32 2048 from rfl, ← BitVec.ofNat_mul, ← BitVec.ofNat_add]
  congr 1
  omega

/-- A number below `2^31` read as a signed word is that number. -/
theorem toInt_ofNat {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- Whether a lane is inside the array. -/
theorem pay18_lane (i : grid0.Coords) (r : Fin 128) (j : Fin 2048) :
    k0_pay18 i (ix2 r j) = if 2048 * (i 0).val + j.val < 100000 then 1#1 else 0#1 := by
  have hi : (i 0).val < 49 := (i 0).isLt
  have hj := j.isLt
  show BitVec.ofBool ((k0_pay17 i (ix2 r j)).slt 100000#32) = _
  rw [pay17_lane]
  have e : (BitVec.ofNat 32 (2048 * (i 0).val + j.val)).slt 100000#32 = decide (2048 * (i 0).val + j.val < 100000) := by
    unfold BitVec.slt
    rw [toInt_ofNat (by omega), show (100000#32 : BitVec 32).toInt = 100000 from rfl]
    exact decide_eq_decide.mpr (by omega)
  rw [e]
  split <;> rename_i h <;> simp [h]

/-- The count a lane's random word is drawn from. -/
theorem pay19_lane (i : grid0.Coords) (r : Fin 128) (j : Fin 2048) :
    k0_pay19 i (ix2 r j) = BitVec.ofNat 32 (r.val * 100000 + (2048 * (i 0).val + j.val)) + 42#32 := by
  have e : k0_pay19 i (ix2 r j) = BitVec.ofNat 32 (0 * 128 + r.val) * BitVec.ofNat 32 100000 + k0_pay17 i (ix2 r j) + 42#32 := rfl
  rw [e, pay17_lane, ← BitVec.ofNat_mul, ← BitVec.ofNat_add, Nat.zero_mul, Nat.zero_add]

/-- A choice by a decided bit. -/
theorem select_ite {α : Type} (p : Prop) [Decidable p] (a b : α) :
    Scalar.select (if p then 1#1 else 0#1) a b = if p then a else b := by
  split <;> rfl

/-- A bit that states a comparison is one where it holds. -/
theorem bit_ite (p : Prop) [Decidable p] : BitVec.ofBool (decide p) = if p then 1#1 else 0#1 := by
  by_cases h : p
  · rw [if_pos h, decide_eq_true h]; rfl
  · rw [if_neg h, decide_eq_false h]; rfl

/-- The comparison "greater". -/
theorem cmp_ogt (x y : EReal) : Ideal.cmp .ogt x y = if y < x then 1#1 else 0#1 :=
  (congrArg BitVec.ofBool (decide_eq_decide.mpr Iff.rfl)).trans (bit_ite (y < x))

/-- The comparison "equal". -/
theorem cmp_oeq (x y : EReal) : Ideal.cmp .oeq x y = if x = y then 1#1 else 0#1 :=
  (congrArg BitVec.ofBool (decide_eq_decide.mpr Iff.rfl)).trans (bit_ite (x = y))

/-- The comparison "equal" of words. -/
theorem cmpi_eq (x y : BitVec 32) : IntOp.cmpi .eq x y = if x = y then 1#1 else 0#1 := by
  by_cases h : x = y
  · subst h
    rw [if_pos rfl]
    show BitVec.ofBool (x == x) = _
    rw [beq_self_eq_true]
    rfl
  · rw [if_neg h]
    show BitVec.ofBool (x == y) = _
    rw [beq_false_of_ne h]
    rfl

/-- A right shift at a lane. -/
theorem shr_lane (w : IVec S128x2048 32) (r : BitVec 32) (hr : r.toNat < 32) (j : S128x2048.Idx) :
    shrui w (broadcast S128x2048 r) j = w j >>> r := if_pos hr

/-- What the score's arithmetic gives at a lane, from the weight, the lane's bit and its random word. -/
theorem pay54_lane (X : Blk) (v : IVec S128x2048 1) (w : IVec S128x2048 32) (j : S128x2048.Idx) :
    k0_pay54 (F := Ideal) X v w 9#32 j = Scalar.select (v j) (Score.score (X j) (w j)) ⊥ := by
  have e : k0_pay54 (F := Ideal) X v w 9#32 j = Scalar.select (v j)
      (Ideal.log (X j) + (Ideal.ofBits .f32 0x00000000#32 - Ideal.log (Ideal.ofBits .f32 0x00000000#32
        - Ideal.log (max Score.tiny ((Ideal.ofBits .f32 (shrui w (broadcast S128x2048 9#32) j ||| 1065353216#32)
          - Score.one) * Score.one + Score.tiny))))) (Ideal.ofBits .f32 0xFF800000#32) := rfl
  rw [e, shr_lane w 9#32 (by decide) j, Score.neg_inf, Ideal.ofBits_zero_f32, zero_sub, zero_sub]
  rfl

/-- The block's scores at a lane. -/
theorem score_lane (i : grid0.Coords) (X : Blk) (r : Fin 128) (j : Fin 2048) :
    Body.score i X (ix2 r j) = if 2048 * (i 0).val + j.val < 100000 then
      Score.score (X (ix2 r j)) (Threefry.draw (BitVec.ofNat 32 (r.val * 100000 + (2048 * (i 0).val + j.val)))) else ⊥ := by
  have e : Body.score i X = k0_pay54 X (k0_pay18 i) (Draw.bits i) 9#32 := rfl
  rw [e, pay54_lane, pay18_lane, select_ite, Draw.bits_lane i (ix2 r j) _ (pay19_lane i r j)]

/-- A row's number out of a column vector made from a line. -/
theorem column_row {α : Type} (v : S128.Idx → α) (r : Fin 128) :
    shapeCast S128x1 v shapeCasts_S128_S128x1 (ix2 r 0) = v (ix1 r) := by
  refine shapeCast_apply v _ _ (ix1 r) ?_
  rw [Shape.rowMajor_val_one, Shape.rowMajor_val_two]
  show r.val = r.val * 1 + 0
  omega

/-- The lane a row's reduction reads. -/
theorem lift_lane (r : Fin 128) (j : Fin 2048) : reduces_S128x2048_S128.lift (ix1 r) j = ix2 r j := by
  rw [eq_ix2 (reduces_S128x2048_S128.lift (ix1 r) j)]
  rfl

/-- A row's sum. -/
theorem sum_row (G : Blk) (r : Fin 128) :
    shapeCast S128x1 (multiReduction .add [1] S128 G 0x00000000#32 reduces_S128x2048_S128 (.inl rfl) rfl) shapeCasts_S128_S128x1 (ix2 r 0)
      = ∑ j : Fin 2048, G (ix2 r j) := by
  rw [column_row]
  refine (Ideal.multiReduction_add_single G _ _ _ _ _).trans (Finset.sum_congr rfl fun j _ => ?_)
  exact congrArg G (lift_lane r j)

/-- A row's maximum. -/
theorem max_row (G : Blk) (r : Fin 128) :
    shapeCast S128x1 (multiReduction .maximumf [1] S128 G 0xFF800000#32 reduces_S128x2048_S128 (.inl rfl) rfl) shapeCasts_S128_S128x1 (ix2 r 0)
      = Finset.univ.fold max ⊥ fun j : Fin 2048 => G (ix2 r j) := by
  rw [column_row]
  refine (Ideal.multiReduction_maximumf_single G _ _ _ _ _).trans ?_
  rw [show FloatOps.ofBits (F := Ideal) .f32 0xFF800000#32 = (⊥ : EReal) from Score.neg_inf]
  exact congrArg (Finset.univ.fold max ⊥) (funext fun j => congrArg G (lift_lane r j))

/-- A row's least word. -/
theorem min_row (V : IVec S128x2048 32) (r : Fin 128) :
    shapeCast S128x1 (multiReductionI .minsi [1] S128 V 2147483647#32 reduces_S128x2048_S128 rfl) shapeCasts_S128_S128x1 (ix2 r 0)
      = Finset.univ.fold IntOp.minsi 2147483647#32 fun j : Fin 2048 => V (ix2 r j) := by
  rw [column_row]
  refine (multiReductionI_eq_fold .minsi V _ reduces_S128x2048_S128 rfl (ix1 r)).trans ?_
  refine (reduces_S128x2048_S128.fold_filter_drop_single _ _ V (ix1 r)).trans ?_
  exact congrArg (Finset.univ.fold IntOp.minsi 2147483647#32) (funext fun j => congrArg V (lift_lane r j))

/-- The least of the numbers of the places where `p` holds is the first such place's, the other places giving the
    greatest word. -/
theorem min_first {N : ℕ} (hN : N + 2048 ≤ 2147483647) (p : Fin 2048 → Prop) [DecidablePred p] (j : Fin 2048) (hj : p j)
    (hf : ∀ i < j, ¬ p i) :
    (Finset.univ.fold IntOp.minsi 2147483647#32 fun i : Fin 2048 => if p i then BitVec.ofNat 32 (N + i.val) else 2147483647#32)
      = BitVec.ofNat 32 (N + j.val) := by
  have hj' := j.isLt
  apply BitVec.eq_of_toInt_eq
  rw [← Finset.fold_hom (op' := min) (m := BitVec.toInt) SortNet.toInt_minsi, toInt_ofNat (n := N + j.val) (by omega),
    toInt_ofNat (n := 2147483647) (by omega)]
  apply le_antisymm
  · refine (Finset.fold_min_le _).mpr (.inr ⟨j, Finset.mem_univ _, ?_⟩)
    rw [if_pos hj, toInt_ofNat (by omega)]
  · refine (Finset.le_fold_min _).mpr ⟨by omega, fun i _ => ?_⟩
    have hi' := i.isLt
    split
    · rename_i h
      have hij : j ≤ i := not_lt.mp fun hlt => hf i hlt h
      rw [toInt_ofNat (by omega)]
      have : j.val ≤ i.val := hij
      omega
    · rw [toInt_ofNat (n := 2147483647) (by omega)]
      omega

end Cert.KernelIdeal.Lane
-- ==== Proof.KernelStep.lean ====
module

public import proofs.«01_k».proof.Proof.KernelLane

/-!
One block's step on the kernel's scratch buffers, over the extended reals: they hold, after any number of blocks, what
belongs to the columns scanned so far.
-/

@[expose] public section

noncomputable section

namespace Cert.KernelIdeal.Step

open Cert.KernelIdeal Cert.KernelIdeal.Gen Cert.KernelIdeal.Body Cert.KernelIdeal.Lane Cert.Best
open Idealize.ShloMosaic Idealize.ShloMosaic.ValueIdx

/-- An array of numbers. -/
abbrev Arr : Type := S128x100000.Idx → EReal

/-- A row of an array, by column number. -/
def row (S : Arr) (r : Fin 128) (k : ℕ) : EReal := if h : k < 100000 then S (ix2 r ⟨k, h⟩) else ⊥

/-- The number of columns in the first `n` blocks. -/
def cols (n : ℕ) : ℕ := min (2048 * n) 100000

/-- The array of scores. -/
def scores (X : Arr) : Arr :=
  fun i => Score.score (X i) (Threefry.draw (BitVec.ofNat 32 ((i 0).val * 100000 + (i 1).val)))

/-- The first greatest column of a row among the first `n` blocks. -/
def top (S : Arr) (n : ℕ) (r : Fin 128) : Option ℕ := best (row S r) (cols n)

/-- The scratch buffers' contents after `n` blocks: the maxima of the weights and of the scores with the columns they are
    first reached at, the logarithm of the weight at the score's maximum, the weights' sum and that of `x · log x`. -/
def state (X : Arr) (n : ℕ) : Scr Ideal where
  gxv := fun i => (top X n (i 0)).elim ⊥ (row X (i 0))
  gxi := fun i => (top X n (i 0)).elim 0#32 (BitVec.ofNat 32)
  gsv := fun i => (top (scores X) n (i 0)).elim ⊥ (row (scores X) (i 0))
  gsi := fun i => (top (scores X) n (i 0)).elim 0#32 (BitVec.ofNat 32)
  gsl := fun i => (top (scores X) n (i 0)).elim 0 fun k => Ideal.log (row X (i 0) k)
  rs := fun i => ∑ k ∈ Finset.range (cols n), row X (i 0) k
  ea := fun i => ∑ k ∈ Finset.range (cols n), row X (i 0) k * Ideal.log (row X (i 0) k)

/-- Two columns are equal if their rows are. -/
theorem col_ext {α : Type} {u v : S128x1.Idx → α} (h : ∀ r : Fin 128, u (ix2 r 0) = v (ix2 r 0)) : u = v := by
  funext i
  have e : i = ix2 (i 0) 0 := (eq_ix2 i).trans (congrArg (ix2 (i 0)) (Fin.fin_one_eq_zero (i 1)))
  rw [e]
  exact h (i 0)

/-- A column spread over the lanes. -/
theorem spread_lane {α : Type} (v : S128x1.Idx → α) (r : Fin 128) (j : Fin 2048) :
    broadcastTo S128x2048 v broadcasts_S128x1_S128x2048 (ix2 r j) = v (ix2 r 0) := by
  refine broadcastTo_apply v _ _ _ fun a => ?_
  match a with
  | ⟨0, _⟩ => rfl
  | ⟨1, _⟩ => rfl

/-- The greatest lane of a row. -/
theorem pay61_row (G : Blk) (r : Fin 128) :
    k0_pay61 (F := Ideal) G (ix2 r 0) = Finset.univ.fold max ⊥ fun j : Fin 2048 => G (ix2 r j) := by
  unfold k0_pay61
  exact max_row G r

/-- The number of the first greatest lane of a row. -/
theorem pay62_row (V : IVec S128x2048 32) (G : Blk) (r : Fin 128) :
    k0_pay62 (F := Ideal) V G (ix2 r 0) = Finset.univ.fold IntOp.minsi 2147483647#32 fun j : Fin 2048 =>
      if G (ix2 r j) = k0_pay61 (F := Ideal) G (ix2 r 0) then V (ix2 r j) else 2147483647#32 := by
  refine (min_row _ r).trans (congrArg (Finset.univ.fold IntOp.minsi 2147483647#32) (funext fun j => ?_))
  have e : select (cmpf (F := Ideal) .oeq G (broadcastTo S128x2048 (k0_pay61 (F := Ideal) G) broadcasts_S128x1_S128x2048)) V
      (broadcast S128x2048 2147483647#32) (ix2 r j)
      = Scalar.select (Ideal.cmp .oeq (G (ix2 r j)) (broadcastTo S128x2048 (k0_pay61 (F := Ideal) G) broadcasts_S128x1_S128x2048 (ix2 r j)))
        (V (ix2 r j)) 2147483647#32 := rfl
  rw [spread_lane, cmp_oeq, select_ite] at e
  exact e

/-- What is kept beside a maximum: the new value where the block exceeds the maximum so far. -/
theorem keep_row {α : Type} (G : Blk) (o : Col) (a b : S128x1.Idx → α) (r : Fin 128) :
    select (k0_pay63 (F := Ideal) G o) a b (ix2 r 0)
      = if o (ix2 r 0) < k0_pay61 (F := Ideal) G (ix2 r 0) then a (ix2 r 0) else b (ix2 r 0) := by
  have e : ∀ u v : Col, select (cmpf (F := Ideal) (φ := .f32) .ogt u v) a b (ix2 r 0)
      = Scalar.select (Ideal.cmp .ogt (u (ix2 r 0)) (v (ix2 r 0))) (a (ix2 r 0)) (b (ix2 r 0)) := fun _ _ => rfl
  unfold k0_pay63
  rw [e, cmp_ogt, select_ite]

/-- The columns before block `t`, and after it. -/
theorem cols_of_lt {t : ℕ} (h : t < 49) : cols t = 2048 * t := by unfold cols; omega

/-- No more columns than the row has. -/
theorem cols_le (n : ℕ) : cols n ≤ 100000 := min_le_right _ _

/-- A row inside the array. -/
theorem row_of_lt (S : Arr) (r : Fin 128) {k : ℕ} (h : k < 100000) : row S r k = S (ix2 r ⟨k, h⟩) := dif_pos h

section masked

/-! A block `G` that holds an array `S`'s lanes and `−∞` past the array's end. -/

variable {S : Arr} {t : ℕ} (ht : t < 49) {G : Blk} {r : Fin 128}
  (hG : ∀ j : Fin 2048, G (ix2 r j) = if 2048 * t + j.val < 100000 then row S r (2048 * t + j.val) else ⊥)

include ht hG

/-- What is kept beside the maximum after the block belongs to the first greatest column so far, if the new value belongs
    to the block's first greatest lane. -/
theorem keep {β : Type} {new d : β} {val : ℕ → β}
    (hnew : ∀ j : Fin 2048, 2048 * t + j.val < 100000 → G (ix2 r j) = k0_pay61 (F := Ideal) G (ix2 r 0) →
      (∀ i < j, G (ix2 r i) ≠ k0_pay61 (F := Ideal) G (ix2 r 0)) → new = val (2048 * t + j.val)) :
    (if (top S t r).elim ⊥ (row S r) < k0_pay61 (F := Ideal) G (ix2 r 0) then new else (top S t r).elim d val)
      = (top S (t + 1) r).elim d val := by
  have hc := cols_of_lt ht
  have hc' : cols (t + 1) = min (2048 * t + 2048) 100000 := by unfold cols; rw [Nat.mul_succ]
  unfold top
  rw [hc]
  refine block (f := row S r) (N := 2048 * t) (M := cols (t + 1)) (L := 2048) (g := fun j => G (ix2 r j)) (by omega) (by omega)
    (fun j hj => ?_) (fun j hj => ?_) (fun j => ?_) (fun hne => ?_) (fun j hj he hf => ?_)
  · show G (ix2 r j) = _
    rw [hG, if_pos (by omega)]
  · show G (ix2 r j) = _
    have := j.isLt
    rw [hG, if_neg (by omega)]
  · rw [pay61_row]
    exact le_fold (fun j : Fin 2048 => G (ix2 r j)) j
  · rw [pay61_row] at hne ⊢
    exact fold_mem (fun j : Fin 2048 => G (ix2 r j)) hne
  · exact hnew j (by omega) he hf

/-- The number of the block's first greatest lane is its column's. -/
theorem first_col (i : grid0.Coords) (hi : (i 0).val = t) (j : Fin 2048) (he : G (ix2 r j) = k0_pay61 (F := Ideal) G (ix2 r 0))
    (hf : ∀ i < j, G (ix2 r i) ≠ k0_pay61 (F := Ideal) G (ix2 r 0)) :
    k0_pay62 (F := Ideal) (k0_pay17 i) G (ix2 r 0) = BitVec.ofNat 32 (2048 * t + j.val) := by
  rw [pay62_row, ← hi]
  have e : (fun j : Fin 2048 => if G (ix2 r j) = k0_pay61 (F := Ideal) G (ix2 r 0) then k0_pay17 i (ix2 r j) else 2147483647#32)
      = fun j : Fin 2048 => if G (ix2 r j) = k0_pay61 (F := Ideal) G (ix2 r 0) then BitVec.ofNat 32 (2048 * (i 0).val + j.val) else 2147483647#32 :=
    funext fun j => by rw [pay17_lane]
  rw [e]
  exact min_first (by omega) (fun j => G (ix2 r j) = k0_pay61 (F := Ideal) G (ix2 r 0)) j he hf

end masked

/-- The value a row holds at the lane whose number is the one selected. -/
theorem pay66_new (i : grid0.Coords) (hi : (i 0).val < 49) (L G : Blk) (r : Fin 128) (j : Fin 2048)
    (hj : k0_pay62 (F := Ideal) (k0_pay17 i) G (ix2 r 0) = BitVec.ofNat 32 (2048 * (i 0).val + j.val)) (o w : Col) :
    k0_pay66 (F := Ideal) (k0_pay17 i) L G o w (ix2 r 0)
      = if o (ix2 r 0) < k0_pay61 (F := Ideal) G (ix2 r 0) then L (ix2 r j) else w (ix2 r 0) := by
  unfold k0_pay66
  rw [keep_row]
  refine if_congr Iff.rfl ?_ rfl
  rw [max_row]
  have e : ∀ l : Fin 2048, select (cmpi .eq (k0_pay17 i) (broadcastTo S128x2048 (k0_pay62 (F := Ideal) (k0_pay17 i) G) broadcasts_S128x1_S128x2048))
      L (broadcast S128x2048 (Scalar.ofBits (F := Ideal) .f32 0xFF800000#32)) (ix2 r l) = if l = j then L (ix2 r l) else ⊥ := fun l => by
    have e' : select (cmpi .eq (k0_pay17 i) (broadcastTo S128x2048 (k0_pay62 (F := Ideal) (k0_pay17 i) G) broadcasts_S128x1_S128x2048))
        L (broadcast S128x2048 (Scalar.ofBits (F := Ideal) .f32 0xFF800000#32)) (ix2 r l)
        = Scalar.select (IntOp.cmpi .eq (k0_pay17 i (ix2 r l))
          (broadcastTo S128x2048 (k0_pay62 (F := Ideal) (k0_pay17 i) G) broadcasts_S128x1_S128x2048 (ix2 r l))) (L (ix2 r l)) (Ideal.ofBits .f32 0xFF800000#32) := rfl
    rw [e', spread_lane, cmpi_eq, select_ite, Score.neg_inf, hj, pay17_lane]
    have h1 := l.isLt
    have h2 := j.isLt
    refine if_congr ⟨fun h => ?_, fun h => by rw [h]⟩ rfl rfl
    have h' := congrArg BitVec.toNat h
    rw [BitVec.toNat_ofNat, BitVec.toNat_ofNat, Nat.mod_eq_of_lt (by omega), Nat.mod_eq_of_lt (by omega)] at h'
    exact Fin.ext (by omega)
  rw [fold_single _ j fun l hl => (e l).trans (if_neg hl)]
  exact (e j).trans (if_pos rfl)

/-- A lane of a block under a mask that keeps the array's lanes. -/
theorem mask_lane (i : grid0.Coords) (A : Blk) (w : BitVec 32) (r : Fin 128) (j : Fin 2048) :
    select (k0_pay18 i) A (broadcast S128x2048 (Scalar.ofBits (F := Ideal) .f32 w)) (ix2 r j)
      = if 2048 * (i 0).val + j.val < 100000 then A (ix2 r j) else Ideal.ofBits .f32 w := by
  have e : select (k0_pay18 i) A (broadcast S128x2048 (Scalar.ofBits (F := Ideal) .f32 w)) (ix2 r j)
      = Scalar.select (k0_pay18 i (ix2 r j)) (A (ix2 r j)) (Ideal.ofBits .f32 w) := rfl
  rw [e, pay18_lane, select_ite]

/-- Adding a block's lanes inside the array to the sum over the columns before it. -/
theorem sum_block (f : ℕ → EReal) {t : ℕ} (ht : t < 49) (g : Fin 2048 → EReal)
    (hg : ∀ j : Fin 2048, g j = if 2048 * t + j.val < 100000 then f (2048 * t + j.val) else 0) :
    ∑ k ∈ Finset.range (cols t), f k + ∑ j, g j = ∑ k ∈ Finset.range (cols (t + 1)), f k := by
  have hc := cols_of_lt ht
  have hc' : cols (t + 1) = min (2048 * t + 2048) 100000 := by unfold cols; rw [Nat.mul_succ]
  have hle : cols t ≤ cols (t + 1) := by omega
  rw [← Finset.sum_range_add_sum_Ico f hle, hc, Finset.sum_Ico_eq_sum_range]
  congr 1
  rw [Finset.sum_congr rfl fun j _ => hg j, Fin.sum_univ_eq_sum_range (fun j => if 2048 * t + j < 100000 then f (2048 * t + j) else 0) 2048]
  rw [← Finset.sum_filter]
  refine Finset.sum_congr ?_ fun _ _ => rfl
  ext k
  simp only [Finset.mem_filter, Finset.mem_range]
  omega

variable (X : Arr)

/-- One block's step on the scratch buffers, given that the block holds the array's lanes inside the array. -/
theorem step (i : grid0.Coords) (B : Blk)
    (hB : ∀ (r : Fin 128) (j : Fin 2048) (k : Fin 100000), k.val = 2048 * (i 0).val + j.val → B (ix2 r j) = X (ix2 r k)) :
    Scr.step i B (state X (i 0).val) = state X ((i 0).val + 1) := by
  have ht : (i 0).val < 49 := (i 0).isLt
  have lane : ∀ (r : Fin 128) (j : Fin 2048), 2048 * (i 0).val + j.val < 100000 → B (ix2 r j) = row X r (2048 * (i 0).val + j.val) :=
    fun r j h => (hB r j ⟨_, h⟩ rfl).trans (row_of_lt X r h).symm
  have hx : ∀ (r : Fin 128) (j : Fin 2048), k0_pay55 (F := Ideal) B (k0_pay18 i) (ix2 r j)
      = if 2048 * (i 0).val + j.val < 100000 then row X r (2048 * (i 0).val + j.val) else ⊥ := fun r j => by
    unfold k0_pay55
    rw [mask_lane, Score.neg_inf]
    split
    · rename_i h; exact lane r j h
    · rfl
  have hs : ∀ (r : Fin 128) (j : Fin 2048), Body.score i B (ix2 r j)
      = if 2048 * (i 0).val + j.val < 100000 then row (scores X) r (2048 * (i 0).val + j.val) else ⊥ := fun r j => by
    rw [score_lane]
    split
    · rename_i h
      rw [row_of_lt _ _ h, hB r j ⟨_, h⟩ rfl]
      rfl
    · rfl
  have hl : ∀ (r : Fin 128) (j : Fin 2048), 2048 * (i 0).val + j.val < 100000 →
      k0_pay53 (F := Ideal) B (ix2 r j) = Ideal.log (row X r (2048 * (i 0).val + j.val)) := fun r j h => congrArg Ideal.log (lane r j h)
  have e55 : k0_pay56 (F := Ideal) B (k0_pay18 i) = k0_pay61 (F := Ideal) (k0_pay55 (F := Ideal) B (k0_pay18 i)) := rfl
  have e57 : k0_pay57 (F := Ideal) B (k0_pay17 i) (k0_pay18 i) = k0_pay62 (F := Ideal) (k0_pay17 i) (k0_pay55 (F := Ideal) B (k0_pay18 i)) := rfl
  have e58 : ∀ o : Col, k0_pay58 (F := Ideal) B (k0_pay18 i) o = k0_pay63 (F := Ideal) (k0_pay55 (F := Ideal) B (k0_pay18 i)) o := fun _ => rfl
  unfold Scr.step
  generalize Body.score (F := Ideal) i B = V at hs
  refine Scr.mk.injEq .. |>.mpr ⟨?_, ?_, ?_, ?_, ?_, ?_, ?_⟩ <;> refine col_ext fun r => ?_
  · unfold k0_pay59
    rw [shapeCast_self, e58, e55, keep_row]
    exact keep ht (hx r) fun j hj he _ => (he.symm.trans (hx r j)).trans (if_pos hj)
  · unfold k0_pay60
    rw [shapeCast_self, e58, e57, keep_row]
    exact keep ht (hx r) fun j _ he hf => first_col ht (hx r) i rfl j he hf
  · unfold k0_pay64
    rw [shapeCast_self, keep_row]
    exact keep ht (hs r) fun j hj he _ => (he.symm.trans (hs r j)).trans (if_pos hj)
  · unfold k0_pay65
    rw [shapeCast_self, keep_row]
    exact keep ht (hs r) fun j _ he hf => first_col ht (hs r) i rfl j he hf
  · unfold k0_pay1
    rw [shapeCast_self]
    by_cases h : ∃ j : Fin 2048, 2048 * (i 0).val + j.val < 100000 ∧ V (ix2 r j) = k0_pay61 (F := Ideal) V (ix2 r 0)
        ∧ ∀ l < j, V (ix2 r l) ≠ k0_pay61 (F := Ideal) V (ix2 r 0)
    · obtain ⟨j, hj, he, hf⟩ := h
      rw [pay66_new i ht _ V r j (first_col ht (hs r) i rfl j he hf)]
      refine keep ht (hs r) fun j' _ he' hf' => ?_
      have h : j' = j := le_antisymm (le_of_not_gt fun h => hf' j h he) (le_of_not_gt fun h => hf j' h he')
      rw [h]
      exact hl r j hj
    · unfold k0_pay66
      rw [keep_row]
      exact keep ht (hs r) fun j hj he hf => absurd ⟨j, hj, he, hf⟩ h
  · unfold k0_pay2
    rw [shapeCast_self]
    refine (congrArg ((state X (i 0).val).rs (ix2 r 0) + ·) (sum_row _ r)).trans (sum_block _ ht _ fun j => ?_)
    rw [mask_lane, Ideal.ofBits_zero_f32]
    split
    · rename_i h; exact lane r j h
    · rfl
  · unfold k0_pay3
    rw [shapeCast_self]
    refine (congrArg ((state X (i 0).val).ea (ix2 r 0) + ·) (sum_row _ r)).trans (sum_block _ ht _ fun j => ?_)
    rw [mask_lane, Ideal.ofBits_zero_f32]
    split
    · rename_i h; exact congrArg₂ (· * ·) (lane r j h) (hl r j h)
    · rfl

/-- Before the first block nothing has been scanned. -/
theorem init : (Scr.init : Scr Ideal) = state X 0 := by
  have hz : cols 0 = 0 := rfl
  have ht : ∀ (S : Arr) (r : Fin 128), top S 0 r = none := fun S r => by unfold top; rw [hz]; rfl
  unfold Scr.init state
  refine Scr.mk.injEq .. |>.mpr ⟨?_, ?_, ?_, ?_, ?_, ?_, ?_⟩ <;> refine col_ext fun r => ?_
  · refine Eq.trans Score.neg_inf ?_; rw [ht]; rfl
  · rw [ht]; rfl
  · refine Eq.trans Score.neg_inf ?_; rw [ht]; rfl
  · rw [ht]; rfl
  · refine Eq.trans Ideal.ofBits_zero_f32 ?_; rw [ht]; rfl
  · refine Eq.trans Ideal.ofBits_zero_f32 ?_; rw [hz]; rfl
  · refine Eq.trans Ideal.ofBits_zero_f32 ?_; rw [hz]; rfl

end Cert.KernelIdeal.Step
-- ==== Proof.HostLine.lean ====
module

public import Idealize.ShloMosaic.Lib.StableHlo.Run
public import Idealize.ShloMosaic.Lib.Pipeline.Frame

/-!
Reading off what a straight line of host operations leaves in its buffers.

`Seg lo hi p R` says: the program `p` is a line of host operations, each writing only buffers numbered from `lo`
up to `hi`, and whatever the buffers held before, `R` holds of the contents afterwards.  Every rule below peels one
operation off the front of a program and adds to the statement about the rest the one equation that the operation
establishes; since a buffer is written once and after the buffers it is computed from, that equation is still true
when the whole line has run.
-/

@[expose] public section

noncomputable section

namespace Cert.HostLine

open Idealize.ShloMosaic Idealize.ShloMosaic.TcCoe Idealize.ShloMosaic.StableHlo
open Idealize.SL Idealize.SL.Sem

variable {nD : Nat} {τ : Topo} {sig : RefSig} {Val : EltTy → Type} {Λ : Labels}

/-- The number of a buffer. -/
def num (r : Ref sig .tc) : ℕ := r.idx.val

/-- The contents of a buffer, at the type of the tensor value it holds. -/
def get {T : BufTy} (W : Valuation τ sig Val) (x : TRef sig T) : T.Contents Val := x.ofBuf (W (Proc.devRef .tc x.ref))

/-- The program `p` is a line of host operations writing buffers numbered in `[lo, hi)` only, after which `R` holds. -/
def Seg (lo hi : ℕ) (p : Prog (TpuEff nD τ sig Val Λ .tc) PUnit) (R : Valuation τ sig Val → Prop) : Prop :=
  lo ≤ hi ∧ ∃ ops : List (HloOp τ sig Val), p = seq ops
    ∧ (∀ op ∈ ops, op.bufs ⊆ tcRefs τ sig ∧ op.fresh = ∅
        ∧ ∀ r : Ref sig .tc, num r < lo ∨ hi ≤ num r → Proc.devRef .tc r ∉ op.writes)
    ∧ ∀ V W : Valuation τ sig Val,
        (∀ r : Ref sig .tc, num r < hi → W (Proc.devRef .tc r) = after ops V (Proc.devRef .tc r)) → R W

variable {lo hi mid : ℕ} {p k : Prog (TpuEff nD τ sig Val Λ .tc) PUnit} {R R' : Valuation τ sig Val → Prop}

/-- The empty line establishes what is true anyway. -/
theorem Seg.done (h : lo ≤ hi) (hR : ∀ W, R W) :
    Seg lo hi (pure ⟨⟩ : Prog (TpuEff nD τ sig Val Λ .tc) PUnit) R :=
  ⟨h, [], rfl, fun _ h => absurd h List.not_mem_nil, fun _ W _ => hR W⟩

/-- A weaker conclusion. -/
theorem Seg.mono (h : Seg lo hi p R) (hR : ∀ W, R W → R' W) : Seg lo hi p R' :=
  let ⟨a, ops, b, c, d⟩ := h
  ⟨a, ops, b, c, fun V W e => hR W (d V W e)⟩

/-- A program followed by nothing is that program. -/
theorem Seg.of_then_nothing (h : Seg lo hi (p >>= fun _ => pure ⟨⟩) R) : Seg lo hi p R := by
  have e : (p >>= fun _ => pure ⟨⟩) = p := bind_pure p
  rwa [e] at h

/-- Two lines one after the other. -/
theorem Seg.bind (h₁ : Seg lo mid p R') (h₂ : Seg mid hi k fun W => R' W → R W) : Seg lo hi (p >>= fun _ => k) R := by
  obtain ⟨a₁, l₁, rfl, c₁, d₁⟩ := h₁
  obtain ⟨a₂, l₂, rfl, c₂, d₂⟩ := h₂
  refine ⟨a₁.trans a₂, l₁ ++ l₂, (seq_append l₁ l₂).symm, fun op ho => ?_, fun V W hW => ?_⟩
  · rcases List.mem_append.mp ho with ho | ho
    · exact ⟨(c₁ op ho).1, (c₁ op ho).2.1, fun r hr => (c₁ op ho).2.2 r (hr.imp id a₂.trans)⟩
    · exact ⟨(c₂ op ho).1, (c₂ op ho).2.1, fun r hr => (c₂ op ho).2.2 r (hr.imp (lt_of_lt_of_le · a₁) id)⟩
  · have e : ∀ V, after (l₁ ++ l₂) V = after l₂ (after l₁ V) := by
      clear c₁ d₁ hW
      induction l₁ with
      | nil => exact fun _ => rfl
      | cons op l ih => exact fun V => ih (op.result V)
    rw [e] at hW
    refine d₂ (after l₁ V) W hW (d₁ V W fun r hr => (hW r (hr.trans_le a₂)).trans ?_)
    exact after_of_forall_not_mem _ _ fun op ho => (c₂ op ho).2.2 r (Or.inl hr)

/-- One operation that writes the buffer `y` only, and the rest of the line. -/
theorem Seg.step (op : HloOp τ sig Val) (y : Ref sig .tc) (hw : op.writes = {Proc.devRef .tc y})
    (hb : op.bufs ⊆ tcRefs τ sig) (hf : op.fresh = ∅) (fact : Valuation τ sig Val → Prop)
    (hfact : ∀ V W : Valuation τ sig Val, W (Proc.devRef .tc y) = op.result V (Proc.devRef .tc y) →
      (∀ r : Ref sig .tc, num r < num y → W (Proc.devRef .tc r) = V (Proc.devRef .tc r)) → fact W)
    (hl : lo ≤ num y) (h : Seg (num y + 1) hi k fun W => fact W → R W) :
    Seg lo hi ((hlo rfl op fun _ => .ret (⟨⟩ : PUnit)) >>= fun _ => k) R := by
  obtain ⟨a, l, rfl, c, d⟩ := h
  have hn : ∀ r : Ref sig .tc, num r ≠ num y → Proc.devRef (τ := τ) .tc r ∉ op.writes := fun r hr hm => by
    rw [hw, Finset.mem_singleton] at hm
    exact hr (congrArg num (Proc.devRef_injective _ hm))
  have hk : ∀ V, ∀ r : Ref sig .tc, num r ≤ num y →
      after (op :: l) V (Proc.devRef .tc r) = op.result V (Proc.devRef .tc r) := fun V r hr =>
    after_of_forall_not_mem _ _ fun o ho => (c o ho).2.2 r (Or.inl (Nat.lt_succ_of_le hr))
  refine ⟨hl.trans (Nat.le_of_succ_le a), op :: l, rfl, fun o ho => ?_, fun V W hW => ?_⟩
  · rcases List.mem_cons.mp ho with rfl | ho
    · exact ⟨hb, hf, fun r hr => hn r (by omega)⟩
    · exact ⟨(c o ho).1, (c o ho).2.1, fun r hr => (c o ho).2.2 r (hr.imp (fun h => by omega) id)⟩
  · refine d (op.result V) W hW (hfact V W ((hW y a).trans (hk V y le_rfl)) fun r hr => ?_)
    rw [hW r (hr.trans a), hk V r hr.le, op.result_of_not_mem V (hn r hr.ne)]

/-! ## One rule per form of operation, over buffers -/

section Plain

variable {x a b c e y : Ref sig .tc}

/-- A constant. -/
theorem Seg.nullary (v : y.ty.Contents Val) (hy)
    (hl : lo ≤ num y) (h : Seg (num y + 1) hi k fun W => W (Proc.devRef .tc y) = v → R W) :
    Seg lo hi ((hlo rfl (StableHlo.nullary y v hy) fun _ => .ret (⟨⟩ : PUnit)) >>= fun _ => k) R :=
  Seg.step _ y rfl (nullary_bufs_sub ..) rfl _ (fun V W e _ => e.trans (nullary_result y v hy V)) hl h

/-- A function of one buffer. -/
theorem Seg.unary (f : x.ty.Contents Val → y.ty.Contents Val) (hx hy)
    (hl : (lo ≤ num y ∧ num x < num y)) (h : Seg (num y + 1) hi k fun W => W (Proc.devRef .tc y) = f (W (Proc.devRef .tc x)) → R W) :
    Seg lo hi ((hlo rfl (StableHlo.unary x y f hx hy) fun _ => .ret (⟨⟩ : PUnit)) >>= fun _ => k) R :=
  Seg.step _ y rfl (unary_bufs_sub ..) rfl _ (fun V W e n => by
    rw [e, unary_result, n x hl.2]) hl.1 h

/-- The same elements in another shape. -/
theorem Seg.reshape (he : x.ty.elt = y.ty.elt) (hn : x.ty.shape.ShapeCasts y.ty.shape) (hx hy)
    (hl : (lo ≤ num y ∧ num x < num y))
    (h : Seg (num y + 1) hi k fun W => W (Proc.devRef .tc y) = (fun i => he ▸ shapeCast y.ty.shape (W (Proc.devRef .tc x)) hn i) → R W) :
    Seg lo hi ((hlo rfl (StableHlo.reshape x y he hn hx hy) fun _ => .ret (⟨⟩ : PUnit)) >>= fun _ => k) R :=
  Seg.step _ y rfl (reshape_bufs_sub ..) rfl _ (fun V W e n => by
    rw [e, reshape_result, n x hl.2]) hl.1 h

/-- A function of two buffers. -/
theorem Seg.binary (f : a.ty.Contents Val → b.ty.Contents Val → y.ty.Contents Val) (ha hb hy)
    (hl : (lo ≤ num y ∧ num a < num y ∧ num b < num y))
    (h : Seg (num y + 1) hi k fun W => W (Proc.devRef .tc y) = f (W (Proc.devRef .tc a)) (W (Proc.devRef .tc b)) → R W) :
    Seg lo hi ((hlo rfl (StableHlo.binary a b y f ha hb hy) fun _ => .ret (⟨⟩ : PUnit)) >>= fun _ => k) R :=
  Seg.step _ y rfl (binary_bufs_sub ..) rfl _ (fun V W e n => by
    rw [e, binary_result, n a hl.2.1, n b hl.2.2]) hl.1 h

/-- A function of three buffers. -/
theorem Seg.ternary (f : c.ty.Contents Val → a.ty.Contents Val → b.ty.Contents Val → y.ty.Contents Val) (hc ha hb hy)
    (hl : (lo ≤ num y ∧ num c < num y ∧ num a < num y ∧ num b < num y))
    (h : Seg (num y + 1) hi k fun W => W (Proc.devRef .tc y)
      = f (W (Proc.devRef .tc c)) (W (Proc.devRef .tc a)) (W (Proc.devRef .tc b)) → R W) :
    Seg lo hi ((hlo rfl (StableHlo.ternary c a b y f hc ha hb hy) fun _ => .ret (⟨⟩ : PUnit)) >>= fun _ => k) R :=
  Seg.step _ y rfl (ternary_bufs_sub ..) rfl _ (fun V W e n => by
    rw [e, ternary_result, n c hl.2.1, n a hl.2.2.1, n b hl.2.2.2]) hl.1 h

/-- A function of four buffers. -/
theorem Seg.quaternary
    (f : a.ty.Contents Val → b.ty.Contents Val → c.ty.Contents Val → e.ty.Contents Val → y.ty.Contents Val) (ha hb hc he hy)
    (hl : (lo ≤ num y ∧ num a < num y ∧ num b < num y ∧ num c < num y ∧ num e < num y))
    (h : Seg (num y + 1) hi k fun W => W (Proc.devRef .tc y)
      = f (W (Proc.devRef .tc a)) (W (Proc.devRef .tc b)) (W (Proc.devRef .tc c)) (W (Proc.devRef .tc e)) → R W) :
    Seg lo hi ((hlo rfl (StableHlo.quaternary a b c e y f ha hb hc he hy) fun _ => .ret (⟨⟩ : PUnit)) >>= fun _ => k) R :=
  Seg.step _ y rfl (quaternary_bufs_sub ..) rfl _ (fun V W e' n => by
    rw [e', quaternary_result, n a hl.2.1, n b hl.2.2.1, n c hl.2.2.2.1, n e hl.2.2.2.2]) hl.1 h

end Plain

/-! ## The same rules over typed references -/

section Typed

variable {Tx Ta Tb Tc Te Ty : BufTy} {x : TRef sig Tx} {a : TRef sig Ta} {b : TRef sig Tb} {c : TRef sig Tc}
  {e : TRef sig Te} {y : TRef sig Ty}

/-- A buffer that holds a value gives it back. -/
theorem get_of_toBuf {W : Valuation τ sig Val} {v : Ty.Contents Val} (h : W (Proc.devRef .tc y.ref) = y.toBuf v) :
    get W y = v := by
  unfold get; rw [h]; exact cast_cast _ _ _ |>.trans (cast_eq _ _)

/-- A constant. -/
theorem Seg.nullaryT (v : Ty.Contents Val)
    (hl : lo ≤ num y.ref) (h : Seg (num y.ref + 1) hi k fun W => get W y = v → R W) :
    Seg lo hi ((hlo rfl (TRef.nullary y v) fun _ => .ret (⟨⟩ : PUnit)) >>= fun _ => k) R :=
  Seg.nullary _ _ hl (h.mono fun _ g e => g (get_of_toBuf e))

/-- A function of one value. -/
theorem Seg.unaryT (f : Tx.Contents Val → Ty.Contents Val)
    (hl : (lo ≤ num y.ref ∧ num x.ref < num y.ref)) (h : Seg (num y.ref + 1) hi k fun W => get W y = f (get W x) → R W) :
    Seg lo hi ((hlo rfl (TRef.unary x y f) fun _ => .ret (⟨⟩ : PUnit)) >>= fun _ => k) R :=
  Seg.unary _ _ _ hl (h.mono fun _ g e => g (get_of_toBuf e))

/-- A function of two values. -/
theorem Seg.binaryT (f : Ta.Contents Val → Tb.Contents Val → Ty.Contents Val)
    (hl : (lo ≤ num y.ref ∧ num a.ref < num y.ref ∧ num b.ref < num y.ref))
    (h : Seg (num y.ref + 1) hi k fun W => get W y = f (get W a) (get W b) → R W) :
    Seg lo hi ((hlo rfl (TRef.binary a b y f) fun _ => .ret (⟨⟩ : PUnit)) >>= fun _ => k) R :=
  Seg.binary _ _ _ _ hl (h.mono fun _ g e => g (get_of_toBuf e))

/-- A function of three values. -/
theorem Seg.ternaryT (f : Tc.Contents Val → Ta.Contents Val → Tb.Contents Val → Ty.Contents Val)
    (hl : (lo ≤ num y.ref ∧ num c.ref < num y.ref ∧ num a.ref < num y.ref ∧ num b.ref < num y.ref))
    (h : Seg (num y.ref + 1) hi k fun W => get W y = f (get W c) (get W a) (get W b) → R W) :
    Seg lo hi ((hlo rfl (TRef.ternary c a b y f) fun _ => .ret (⟨⟩ : PUnit)) >>= fun _ => k) R :=
  Seg.ternary _ _ _ _ _ hl (h.mono fun _ g e => g (get_of_toBuf e))

/-- A function of four values. -/
theorem Seg.quaternaryT (f : Ta.Contents Val → Tb.Contents Val → Tc.Contents Val → Te.Contents Val → Ty.Contents Val)
    (hl : (lo ≤ num y.ref ∧ num a.ref < num y.ref ∧ num b.ref < num y.ref ∧ num c.ref < num y.ref ∧ num e.ref < num y.ref))
    (h : Seg (num y.ref + 1) hi k fun W => get W y = f (get W a) (get W b) (get W c) (get W e) → R W) :
    Seg lo hi ((hlo rfl (TRef.quaternary a b c e y f) fun _ => .ret (⟨⟩ : PUnit)) >>= fun _ => k) R :=
  Seg.quaternary _ _ _ _ _ _ hl (h.mono fun _ g e => g (get_of_toBuf e))

/-- The same elements in another shape. -/
theorem Seg.reshapeT (he : Tx.elt = Ty.elt) (hn : Tx.shape.ShapeCasts Ty.shape)
    (hl : (lo ≤ num y.ref ∧ num x.ref < num y.ref))
    (h : Seg (num y.ref + 1) hi k fun W => get W y = (fun i => he ▸ shapeCast Ty.shape (get W x) hn i) → R W) :
    Seg lo hi ((hlo rfl (TRef.reshape x y he hn) fun _ => .ret (⟨⟩ : PUnit)) >>= fun _ => k) R := by
  obtain ⟨xr, xt, xd, xu⟩ := x
  obtain ⟨yr, yt, yd, yu⟩ := y
  subst xt yt
  exact Seg.reshape _ _ _ _ hl h

end Typed

/-- What a line that is a whole program does: every weakly fair run ends, with the buffers at contents `W` of which
    `R` holds, and the buffers numbered below `lo` as they were. -/
theorem Seg.run {lo hi : ℕ}
    (hR : (Finset.univ.filter fun b : Ref sig .tc => b.isScoped) = ∅)
    (hC : (Finset.univ.filter fun sm : SemLoc sig => sm.isScoped .tc) = ∅)
    (defs : Defs nD τ sig Val Λ)
    (main : Dev nD → Prog (TpuEff nD τ sig Val Λ .tc) PUnit) (R : Valuation τ sig Val → Prop)
    (h : ∀ d, Seg lo hi (main d) R) (m : (ℓ : Loc nD τ sig) → Buf Val ℓ) (ρ : Dev nD → PrngReg) :
    θ_run defs (onTc (τ := τ) main) ⟨m, fun _ => 0, ρ⟩ fun r =>
      ∀ d : Dev nD, ∃ W : Valuation τ sig Val, R W
        ∧ (∀ b : Ref sig .tc, r.2.mem ((d.tc : Thread nD τ).loc b) = W (Proc.devRef .tc b))
        ∧ ∀ b : Ref sig .tc, num b < lo → W (Proc.devRef .tc b) = m ((d.tc : Thread nD τ).loc b) := by
  choose a ops b c d using h
  refine (θ_run defs _ _).mono (fun r hr dv => ⟨after (ops dv) (launchContents m dv), d dv _ _ fun _ _ => rfl, hr dv, fun b hb => ?_⟩)
    (run_seq hR hC defs main ops b (fun dv => List.forall_iff_forall_mem.mpr fun op ho => (c dv op ho).1) m ρ
      (fun dv op ho => (c dv op ho).2.1))
  exact after_of_forall_not_mem _ _ fun op ho => (c dv op ho).2.2 b (Or.inl hb)

end Cert.HostLine

end
-- ==== Proof.RefThreefry.lean ====
module

public import proofs.«01_k».proof.Proof.Gen.ReferenceIdeal
public import proofs.«01_k».proof.Proof.HostLine
public import proofs.«01_k».proof.Proof.Threefry

/-!
The reference's threefry function: what its line of 223 operations leaves in its two result buffers.
-/

@[expose] public section

noncomputable section

namespace Cert.ReferenceIdeal.Line

open Cert.ReferenceIdeal Cert.ReferenceIdeal.Gen Cert.HostLine Cert.Threefry
open Idealize.ShloMosaic Idealize.ShloMosaic.TcCoe Idealize.ShloMosaic.StableHlo
open Idealize.SL Idealize.SL.Sem

variable {F : FTy → Type} [FloatOps F] {Λ : Labels}

/-- A buffer of one word per element. -/
abbrev Words := TRef sig ⟨S128x100000, .i32⟩

/-- A buffer of a single word. -/
abbrev Word := TRef sig ⟨S_, .i32⟩

variable {lo hi : ℕ} {k : Prog (TpuEff nD τ sig (Elt F) Λ .tc) PUnit} {R : Valuation τ sig (Elt F) → Prop}

/-- The nine operations of one round. -/
theorem Seg.round {x0 x1 a b1 s b2 t o y : Words} {c1 c2 : Word} {l r : BitVec 32}
    (hl : l.toNat < 32) (hr : r.toNat < 32)
    (ho : lo ≤ num a.ref ∧ num x0.ref < num a.ref ∧ num x1.ref < num a.ref ∧ num a.ref < num c1.ref
      ∧ num c1.ref < num b1.ref ∧ num b1.ref < num s.ref ∧ num s.ref < num c2.ref ∧ num c2.ref < num b2.ref
      ∧ num b2.ref < num t.ref ∧ num t.ref < num o.ref ∧ num o.ref < num y.ref)
    (h : Seg (num y.ref + 1) hi k fun W => (∀ i, (get W a i, get W y i) = rnd l r (get W x0 i, get W x1 i)) → R W) :
    Seg lo hi (do
      hlo rfl (TRef.binary x0 x1 a addi) fun _ => .ret (⟨⟩ : PUnit)
      hlo rfl (TRef.nullary c1 (constantI S_ 32 l)) fun _ => .ret (⟨⟩ : PUnit)
      hlo rfl (TRef.unary c1 b1 (broadcastInDim S128x100000 ![] bcast_S_S128x100000)) fun _ => .ret (⟨⟩ : PUnit)
      hlo rfl (TRef.binary x1 b1 s Host.shli) fun _ => .ret (⟨⟩ : PUnit)
      hlo rfl (TRef.nullary c2 (constantI S_ 32 r)) fun _ => .ret (⟨⟩ : PUnit)
      hlo rfl (TRef.unary c2 b2 (broadcastInDim S128x100000 ![] bcast_S_S128x100000)) fun _ => .ret (⟨⟩ : PUnit)
      hlo rfl (TRef.binary x1 b2 t Host.shrui) fun _ => .ret (⟨⟩ : PUnit)
      hlo rfl (TRef.binary s t o ori) fun _ => .ret (⟨⟩ : PUnit)
      hlo rfl (TRef.binary a o y xori) fun _ => .ret (⟨⟩ : PUnit)
      k) R := by
  refine Seg.binaryT _ (by omega) (Seg.nullaryT _ (by omega) (Seg.unaryT _ (by omega) (Seg.binaryT _ (by omega)
    (Seg.nullaryT _ (by omega) (Seg.unaryT _ (by omega) (Seg.binaryT _ (by omega) (Seg.binaryT _ (by omega)
    (Seg.binaryT _ (by omega) (h.mono ?_)))))))))
  intro W g e1 e2 e3 e4 e5 e6 e7 e8 e9
  refine g fun i => ?_
  simp only [e1, e2, e3, e4, e5, e6, e7, e8, e9, rnd]
  simp only [addi, xori, ori, Host.shli, Host.shrui, broadcastInDim, constantI, IntOp.addi, IntOp.xori, IntOp.ori,
    IntOp.shli, IntOp.shrui]
  erw [if_pos hl, if_pos hr]

/-- The seven operations of one injection. -/
theorem Seg.inject {x0 x1 b y0 b' t b'' y1 : Words} {k0 k1 c : Word} {n : BitVec 32}
    (ho : lo ≤ num b.ref ∧ num k0.ref < num b.ref ∧ num x0.ref < num b.ref ∧ num x1.ref < num b.ref
      ∧ num k1.ref < num b.ref ∧ num b.ref < num y0.ref
      ∧ num y0.ref < num b'.ref ∧ num b'.ref < num t.ref ∧ num t.ref < num c.ref ∧ num c.ref < num b''.ref
      ∧ num b''.ref < num y1.ref)
    (h : Seg (num y1.ref + 1) hi k fun W =>
      (∀ i, (get W y0 i, get W y1 i) = inj (get W k0 fun a => a.elim0) (get W k1 fun a => a.elim0) n (get W x0 i, get W x1 i)) → R W) :
    Seg lo hi (do
      hlo rfl (TRef.unary k0 b (broadcastInDim S128x100000 ![] bcast_S_S128x100000)) fun _ => .ret (⟨⟩ : PUnit)
      hlo rfl (TRef.binary x0 b y0 addi) fun _ => .ret (⟨⟩ : PUnit)
      hlo rfl (TRef.unary k1 b' (broadcastInDim S128x100000 ![] bcast_S_S128x100000)) fun _ => .ret (⟨⟩ : PUnit)
      hlo rfl (TRef.binary x1 b' t addi) fun _ => .ret (⟨⟩ : PUnit)
      hlo rfl (TRef.nullary c (constantI S_ 32 n)) fun _ => .ret (⟨⟩ : PUnit)
      hlo rfl (TRef.unary c b'' (broadcastInDim S128x100000 ![] bcast_S_S128x100000)) fun _ => .ret (⟨⟩ : PUnit)
      hlo rfl (TRef.binary t b'' y1 addi) fun _ => .ret (⟨⟩ : PUnit)
      k) R := by
  refine Seg.unaryT _ (by omega) (Seg.binaryT _ (by omega) (Seg.unaryT _ (by omega) (Seg.binaryT _ (by omega)
    (Seg.nullaryT _ (by omega) (Seg.unaryT _ (by omega) (Seg.binaryT _ (by omega) (h.mono ?_)))))))
  intro W g e1 e2 e3 e4 e5 e6 e7
  refine g fun i => ?_
  have z : ∀ v : IVec S_ 32, broadcastInDim S128x100000 ![] bcast_S_S128x100000 v i = v fun a => a.elim0 :=
    fun v => congrArg v (funext fun a => a.elim0)
  simp only [e1, e2, e3, e4, e5, e6, e7, inj, addi, IntOp.addi, z]
  rfl

/-- The whole function, called on the two key words and the two halves of the position: its two results at an element. -/
theorem threefry :
    Seg (num main_call1_call0_v0) (num main_call1_v20)
      (fn_threefry2x32.body (F := F) main_call1.v5 main_call1.v7 main_call1.v18 main_call1.v17 main_call1.call0)
      fun W => ∀ i, (get W main_call1_call0.v171 i, get W main_call1_call0.v175 i) =
        groups (get W main_call1.v5 fun a => a.elim0) (get W main_call1.v7 fun a => a.elim0)
          ((get W main_call1.v5 fun a => a.elim0) ^^^ (get W main_call1.v7 fun a => a.elim0) ^^^ 466688986#32)
          (get W main_call1.v18 i + (get W main_call1.v5 fun a => a.elim0), get W main_call1.v17 i + (get W main_call1.v7 fun a => a.elim0)) := by
  refine Seg.of_then_nothing ?_
  unfold fn_threefry2x32.body fn_threefry2x32.body_part0 fn_threefry2x32.body_part1 fn_threefry2x32.body_part2 fn_threefry2x32.body_part3
  simp only [bind_assoc]
  refine Seg.binaryT _ (by decide) ?_
  refine Seg.nullaryT _ (by decide) ?_
  refine Seg.binaryT _ (by decide) ?_
  refine Seg.unaryT _ (by decide) ?_
  refine Seg.binaryT _ (by decide) ?_
  refine Seg.unaryT _ (by decide) ?_
  refine Seg.binaryT _ (by decide) ?_
  iterate 5
    iterate 4 refine Seg.round (by decide) (by decide) (by decide) ?_
    refine Seg.inject (by decide) ?_
  refine Seg.done (by decide) ?_
  intro W i5 r20 r19 r18 r17 i4 r16 r15 r14 r13 i3 r12 r11 r10 r9 i2 r8 r7 r6 r5 i1 r4 r3 r2 r1 e5 e4 e3 e2 e1 ec e0 i
  refine (i5 i).trans ?_
  rw [r20, r19, r18, r17, i4, r16, r15, r14, r13, i3, r12, r11, r10, r9, i2, r8, r7, r6, r5, i1, r4, r3, r2, r1,
    e5, e4, e3, e2, e1, ec, e0]
  have z : ∀ v : IVec S_ 32, broadcastInDim S128x100000 ![] bcast_S_S128x100000 v i = v fun a => a.elim0 :=
    fun v => congrArg v (funext fun a => a.elim0)
  simp only [addi, xori, IntOp.addi, IntOp.xori, z, constantI]
  rfl

end Cert.ReferenceIdeal.Line

end
-- ==== Proof.RefRun.lean ====
module

public import proofs.«01_k».proof.Proof.RefThreefry
public import proofs.«01_k».proof.Defs

/-!
The reference's run: what each function it calls, and then the whole of it, leaves in the result buffers.
-/

@[expose] public section

noncomputable section

namespace Cert.ReferenceIdeal.Line

open Cert.ReferenceIdeal Cert.ReferenceIdeal.Gen Cert.HostLine Cert.Threefry
open Idealize.ShloMosaic Idealize.ShloMosaic.TcCoe Idealize.ShloMosaic.StableHlo
open Idealize.SL Idealize.SL.Sem

variable {F : FTy → Type} [FloatOps F]

/-- Row by row, the index the reference's argmax finds. -/
def argmaxOf (S : FVec F S128x100000 .f32) : IVec S128 32 := fun j =>
  (Host.argReduce reducer_argmax_f32_i32 S (iotaInDim S128x100000 32 1) (constant S_ .f32 0xFF800000#32) (constantI S_ 32 0#32)
    reducesTo_S128x100000_S128_d1 h_S_ j).2

/-- The argmax of the weights. -/
theorem argmax : Seg (num main_call0_v0) (num main_v1) (fn_argmax.body (F := F) (.of main_arg0) main_call0)
    fun W => get W main_call0.v1_1 = argmaxOf (get W (.of main_arg0)) := by
  unfold fn_argmax.body
  refine Seg.nullaryT _ (by decide) (Seg.nullaryT _ (by decide) (Seg.nullaryT _ (by decide)
    (Seg.quaternaryT _ (by decide) (Seg.quaternaryT _ (by decide) (Seg.done (by decide) ?_)))))
  intro W e _ e3 e2 e1
  rw [e, e1, e2, e3]; rfl

/-- The argmax of the scores. -/
theorem argmax_0 : Seg (num main_call2_v0) (num main_cst_6) (fn_argmax_0.body (F := F) (.of main_v21) main_call2)
    fun W => get W main_call2.v1_1 = argmaxOf (get W (.of main_v21)) := by
  unfold fn_argmax_0.body
  refine Seg.nullaryT _ (by decide) (Seg.nullaryT _ (by decide) (Seg.nullaryT _ (by decide)
    (Seg.quaternaryT _ (by decide) (Seg.quaternaryT _ (by decide) (Seg.done (by decide) ?_)))))
  intro W e _ e3 e2 e1
  rw [e, e1, e2, e3]; rfl

/-- The entry of each row that the index `I` names, as the reference looks it up. -/
def takeOf (Q : FVec F S128x100000 .f32) (I : IVec S128x1 32) : FVec F S128x1 .f32 :=
  let I' : IVec S128x1x1 32 := shapeCast S128x1x1
    (select (cmpi .slt I (constantI S128x1 32 0#32)) (addi I (constantI S128x1 32 100000#32)) I) shapeCasts_S128x1_S128x1x1
  select (Host.reduce IntOp.andi (andi (cmpi .sge I' (constantI S128x1x1 32 0#32)) (cmpi .sle I' (constantI S128x1x1 32 99999#32)))
      (constantI S_ 1 1#1) reducesTo_S128x1x1_S128x1_d2 h_S_)
    (Host.gather gather_S128x100000_S128x1x1_S128x1_n_1_0_0_1_2_11 Q I') (constant S128x1 .f32 0x7FC00000#32)

/-- Looking up one entry per row. -/
theorem take_along_axis : Seg (num main_call3_c) (num main_v29)
    (fn_take_along_axis.body (F := F) (.of main_v26) (.of main_v27) main_call3)
    fun W => get W main_call3.v15 = takeOf (get W (.of main_v26)) (get W (.of main_v27)) := by
  unfold fn_take_along_axis.body
  refine Seg.nullaryT _ (by decide) (Seg.unaryT _ (by decide) (Seg.binaryT _ (by decide) (Seg.nullaryT _ (by decide)
    (Seg.unaryT _ (by decide) (Seg.binaryT _ (by decide) (Seg.ternaryT _ (by decide) (Seg.reshapeT _ _ (by decide)
    (Seg.nullaryT _ (by decide) (Seg.nullaryT _ (by decide) (Seg.unaryT _ (by decide) (Seg.binaryT _ (by decide)
    (Seg.unaryT _ (by decide) (Seg.unaryT _ (by decide) (Seg.binaryT _ (by decide) (Seg.binaryT _ (by decide)
    (Seg.nullaryT _ (by decide) (Seg.binaryT _ (by decide) (Seg.binaryT _ (by decide) (Seg.nullaryT _ (by decide)
    (Seg.unaryT _ (by decide) (Seg.ternaryT _ (by decide) (Seg.done (by decide) ?_))))))))))))))))))))))
  intro W e22 e21 e20 e19 e18 e17 e16 e15 e14 e13 e12 e11 e10 e9 e8 e7 e6 e5 e4 e3 e2 e1
  rw [e22, e21, e20, e19, e18, e17, e16, e15, e14, e13, e12, e11, e10, e9, e8, e7, e6, e5, e4, e3, e2, e1]
  rfl

/-- The position of an element, as the 64-bit number the reference computes. -/
def posOf (i : S128x100000.Idx) : BitVec 64 := 100000#64 * BitVec.ofNat 64 (i 0).val + 1#64 * BitVec.ofNat 64 (i 1).val

/-- The number in `[lo, hi)` made from a random word: its upper 23 bits are the fraction of a number in `[1, 2)`. -/
def uniformAt (lo hi : F .f32) (w : BitVec 32) : F .f32 :=
  FloatOps.maximumf lo (FloatOps.addf (FloatOps.mulf
    (FloatOps.subf (FloatOps.ofBits .f32 (IntOp.ori (IntOp.shrui .host w 9#32) 1065353216#32)) (FloatOps.ofBits .f32 0x3F800000#32))
    (FloatOps.subf hi lo)) lo)

/-- The random word the reference draws at an element, with the two key words `key`. -/
def wordOf (key : IVec S2 32) (i : S128x100000.Idx) : BitVec 32 :=
  let k0 := shapeCast S_ (extractStridedSlice S1 ![0] key slices_S2_S1_0) shapeCasts_S1_S_ fun d => d.elim0
  let k1 := shapeCast S_ (extractStridedSlice S1 ![1] key slices_S2_S1_1) shapeCasts_S1_S_ fun d => d.elim0
  let s := groups k0 k1 (k0 ^^^ k1 ^^^ 466688986#32) ((IntOp.shrui .host (posOf i) 32#64).setWidth 32 + k0, (posOf i).setWidth 32 + k1)
  s.1 ^^^ s.2

/-- Drawing the uniform numbers. -/
theorem uniform : Seg (num main_call1_v0) (num main_cst_3)
    (fn_uniform.body (F := F) (.of main_v8) (.of main_cst) (.of main_cst_2) main_call1)
    fun W => ∀ i, get W main_call1.v34 i = uniformAt (get W (.of main_cst) fun d => d.elim0) (get W (.of main_cst_2) fun d => d.elim0)
      (wordOf (get W (.of main_v8)) i) := by
  unfold fn_uniform.body
  refine Seg.unaryT _ (by decide) (Seg.unaryT _ (by decide) (Seg.unaryT _ (by decide) (Seg.unaryT _ (by decide)
    (Seg.unaryT _ (by decide) (Seg.reshapeT _ _ (by decide) (Seg.unaryT _ (by decide) (Seg.reshapeT _ _ (by decide)
    (Seg.nullaryT _ (by decide) (Seg.nullaryT _ (by decide) (Seg.nullaryT _ (by decide) (Seg.unaryT _ (by decide)
    (Seg.binaryT _ (by decide) (Seg.nullaryT _ (by decide) (Seg.unaryT _ (by decide) (Seg.binaryT _ (by decide)
    (Seg.binaryT _ (by decide) (Seg.nullaryT _ (by decide) (Seg.unaryT _ (by decide) (Seg.binaryT _ (by decide)
    (Seg.unaryT _ (by decide) (Seg.unaryT _ (by decide) (Seg.bind threefry (Seg.binaryT _ (by decide)
    (Seg.nullaryT _ (by decide) (Seg.unaryT _ (by decide) (Seg.binaryT _ (by decide) (Seg.nullaryT _ (by decide)
    (Seg.unaryT _ (by decide) (Seg.binaryT _ (by decide) (Seg.unaryT _ (by decide) (Seg.nullaryT _ (by decide)
    (Seg.unaryT _ (by decide) (Seg.binaryT _ (by decide) (Seg.binaryT _ (by decide) (Seg.unaryT _ (by decide)
    (Seg.binaryT _ (by decide) (Seg.unaryT _ (by decide) (Seg.binaryT _ (by decide) (Seg.unaryT _ (by decide)
    (Seg.binaryT _ (by decide) (Seg.done (by decide) ?_)))))))))))))))))))))))))))))))))))))))))
  intro W e34 e33 e32 e31 e30 e29 e28 e27 e26 cst e25 e24 e23 c3 e22 e21 c2 e20 t e18 e17 e16 e15 c1 e14 e13 e12 c0 e11 e10 c e9 e8 e7 e6 e5 e4 e3 e2 e1 e0
  have h0 : ∀ i, get W main_call1.v18 i = (IntOp.shrui .host (posOf i) 32#64).setWidth 32 := fun i => by
    rw [e18, e16, e15, c1, e14, e13, e12, c0, e11, e10, c, e9, e8]; rfl
  have h1 : ∀ i, get W main_call1.v17 i = (posOf i).setWidth 32 := fun i => by
    rw [e17, e14, e13, e12, c0, e11, e10, c, e9, e8]; rfl
  intro i
  have hb : get W main_call1.v20 i = wordOf (get W (.of main_v8)) i := by
    refine ((congrFun e20 i).trans (congrArg (fun s => s.1 ^^^ s.2) (t i))).trans ?_
    rw [h0, h1, e7, e6, e5, e4]; rfl
  rw [← hb, e34, e33, e32, e31, e30, e29, e28, e27, e26, cst, e25, e24, e23, c3, e22, e21, c2, e3, e2, e1, e0]
  have z : ∀ v : FVec F S_ .f32, broadcastInDim S128x100000 ![0, 1] bcast_S1x1_S128x100000_0_1
      (broadcastInDim S1x1 ![] bcast_S_S1x1 v) i = v fun d => d.elim0 :=
    fun v => congrArg v (funext fun a => a.elim0)
  have z' : ∀ v w : FVec F S_ .f32, broadcastInDim S128x100000 ![0, 1] bcast_S1x1_S128x100000_0_1
      (subf (broadcastInDim S1x1 ![] bcast_S_S1x1 v) (broadcastInDim S1x1 ![] bcast_S_S1x1 w)) i
        = FloatOps.subf (v fun d => d.elim0) (w fun d => d.elim0) :=
    fun v w => congrArg₂ FloatOps.subf (congrArg v (funext fun a => a.elim0)) (congrArg w (funext fun a => a.elim0))
  simp only [uniformAt, maximumf, addf, mulf, z, z']
  rfl

/-- The weights' uniform noise: the numbers in `[0, 1)` drawn with the reference's own key. -/
def keyOf : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The reference's noisy score of one entry, from the weight and the random word. -/
def scoreAt (x : F .f32) (w : BitVec 32) : F .f32 :=
  let u := uniformAt (FloatOps.ofBits .f32 0x00000000#32) (FloatOps.ofBits .f32 0x3F800000#32) w
  let v := FloatOps.maximumf (FloatOps.ofBits .f32 0x00800000#32)
    (FloatOps.addf (FloatOps.mulf u (FloatOps.ofBits .f32 0x3F800000#32)) (FloatOps.ofBits .f32 0x00800000#32))
  FloatOps.addf (FloatOps.hostNegf (FloatOps.hostUnary .log (FloatOps.hostNegf (FloatOps.hostUnary .log v)))) (FloatOps.hostUnary .log x)

/-- The reference's noisy scores. -/
def scoreOf (X : FVec F S128x100000 .f32) : FVec F S128x100000 .f32 := fun i => scoreAt (X i) (wordOf keyOf i)

/-- What the reference's result buffers hold, given the weights `X`. -/
structure Results (X : FVec F S128x100000 .f32) (W : Valuation τ sig (Elt F)) : Prop where
  drawn : W (Proc.devRef .tc main_v22) = argmaxOf (scoreOf X)
  logq : W (Proc.devRef .tc main_v30) = Host.log (shapeCast S128
    (takeOf (Host.divf X (broadcastInDim S128x100000 ![0, 1] bcast_S128x1_S128x100000_0_1
        (broadcastInDim S128x1 ![0] bcast_S128_S128x1_0 (Host.reduceAdd X (constant S_ .f32 0x00000000#32) reducesTo_S128x100000_S128_d1 h_S_))))
      (broadcastInDim S128x1 ![0] bcast_S128_S128x1_0 (argmaxOf (scoreOf X)))) shapeCasts_S128x1_S128)
  matched : W (Proc.devRef .tc main_v36) = Host.reduce IntOp.addi
    (extui 32 (cmpi .eq
      (broadcastInDim S128x128 ![0, 1] bcast_S128x1_S128x128_0_1 (shapeCast S128x1 (argmaxOf X) shapeCasts_S128_S128x1))
      (broadcastInDim S128x128 ![0, 1] bcast_S1x128_S128x128_0_1 (broadcastInDim S1x128 ![1] bcast_S128_S1x128_1 (argmaxOf (scoreOf X))))) natLt_1_32)
    (constantI S_ 32 0#32) reducesTo_S128x128_S_d0_1 h_S_
  entropy : W (Proc.devRef .tc main_v40) = Host.negf
    (Host.reduceAdd (mulf X (Host.log X)) (constant S_ .f32 0x00000000#32) reducesTo_S128x100000_S_d0_1 h_S_)
  draws : W (Proc.devRef .tc main_c_9) = constantI S_ 32 128#32

/-- The whole reference. -/
theorem whole (d : Dev nD) : Seg 2 (num main_c_9 + 1) (main (F := F) d) fun W => Results (W (Proc.devRef .tc main_arg0)) W := by
  unfold main
  refine Seg.bind argmax (Seg.reshape _ _ _ _ (by decide) (Seg.nullary _ _ (by decide) (Seg.nullary _ _ (by decide)
    (Seg.binary _ _ _ _ (by decide) (Seg.unary _ _ _ (by decide) (Seg.unary _ _ _ (by decide)
    (Seg.nullary _ _ (by decide) (Seg.binary _ _ _ _ (by decide) (Seg.unary _ _ _ (by decide)
    (Seg.unary _ _ _ (by decide) (Seg.binary _ _ _ _ (by decide) (Seg.unary _ _ _ (by decide)
    (Seg.nullary _ _ (by decide) (Seg.nullary _ _ (by decide) (Seg.bind uniform (Seg.nullary _ _ (by decide)
    (Seg.unary _ _ _ (by decide) (Seg.binary _ _ _ _ (by decide) (Seg.nullary _ _ (by decide)
    (Seg.unary _ _ _ (by decide) (Seg.binary _ _ _ _ (by decide) (Seg.nullary _ _ (by decide)
    (Seg.unary _ _ _ (by decide) (Seg.binary _ _ _ _ (by decide) (Seg.unary _ _ _ (by decide)
    (Seg.unary _ _ _ (by decide) (Seg.unary _ _ _ (by decide) (Seg.unary _ _ _ (by decide)
    (Seg.binary _ _ _ _ (by decide) (Seg.bind argmax_0 (Seg.nullary _ _ (by decide) (Seg.binary _ _ _ _ (by decide)
    (Seg.unary _ _ _ (by decide) (Seg.unary _ _ _ (by decide) (Seg.binary _ _ _ _ (by decide)
    (Seg.unary _ _ _ (by decide) (Seg.bind take_along_axis (Seg.reshape _ _ _ _ (by decide)
    (Seg.unary _ _ _ (by decide) (Seg.unary _ _ _ (by decide) (Seg.unary _ _ _ (by decide)
    (Seg.unary _ _ _ (by decide) (Seg.binary _ _ _ _ (by decide) (Seg.unary _ _ _ (by decide)
    (Seg.nullary _ _ (by decide) (Seg.binary _ _ _ _ (by decide) (Seg.unary _ _ _ (by decide)
    (Seg.binary _ _ _ _ (by decide) (Seg.nullary _ _ (by decide) (Seg.binary _ _ _ _ (by decide)
    (Seg.unary _ _ _ (by decide) (Seg.nullary _ _ (by decide)
    (Seg.done (by decide) ?_)))))))))))))))))))))))))))))))))))))))))))))))))))))
  intro W c9 e40 e39 cst8 e38 e37 e36 c7 e35 e34 e33 e32 e31 e30 e29 ftak e27 e26 e25 e24 e23 cst6 farg0 e21 e20 e19
    e18 e17 e16 e15 cst5 e14 e13 cst4 e12 e11 cst3 funi cst2 cst e9 e8 e7 e6 e5 c1 e4 e3 e2 c0 c e1 farg
  have key : W (Proc.devRef .tc main_v8) = keyOf := by
    rw [e8, e7, e6, e5, c1, e4, e3, e2, c0, c]; rfl
  have k' : get W (TRef.of main_v8) = keyOf := key
  have a' : get W (TRef.of main_cst) = constant S_ .f32 0x00000000#32 := cst
  have b' : get W (TRef.of main_cst_2) = constant S_ .f32 0x3F800000#32 := cst2
  rw [k', a', b'] at funi
  have noise : W (Proc.devRef .tc main_v10) = fun i => uniformAt (F := F) (FloatOps.ofBits .f32 0x00000000#32)
      (FloatOps.ofBits .f32 0x3F800000#32) (wordOf keyOf i) := funext funi
  have score : W (Proc.devRef .tc main_v21) = scoreOf (W (Proc.devRef .tc main_arg0)) := by
    rw [e21, e20, e19, e18, e17, e16, e15, cst5, e14, e13, cst4, e12, e11, cst3, noise, e9]; rfl
  have best : W (Proc.devRef .tc main_v0) = argmaxOf (W (Proc.devRef .tc main_arg0)) := farg
  have drawn : W (Proc.devRef .tc main_v22) = argmaxOf (W (Proc.devRef .tc main_v21)) := farg0
  have taken : W (Proc.devRef .tc main_v28) = takeOf (W (Proc.devRef .tc main_v26)) (W (Proc.devRef .tc main_v27)) := ftak
  rw [score] at drawn
  have line : W (Proc.devRef .tc main_v29) = shapeCast S128 (W (Proc.devRef .tc main_v28)) shapeCasts_S128x1_S128 := e29
  have column : W (Proc.devRef .tc main_v1) = shapeCast S128x1 (W (Proc.devRef .tc main_v0)) shapeCasts_S128_S128x1 := e1
  refine ⟨drawn, ?_, ?_, ?_, c9⟩
  · rw [e30, line, taken, e27, e26, e25, e24, e23, cst6, drawn]
  · rw [e36, c7, e35, e34, e33, e32, e31, column, best, drawn]
  · rw [e40, e39, cst8, e38, e37]

/-- The reference's run: it ends with its results at those values, its arguments as they were, and its semaphores at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, (∃ W : Valuation τ sig (Elt F), Results (m ((c.tc : Thread nD τ).loc main_arg0)) W
          ∧ ∀ b : Ref sig .tc, r.2.mem ((c.tc : Thread nD τ).loc b) = W (Proc.devRef .tc b))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine (θ_run defs _ _).mono (fun r h => ⟨fun c => ?_, sem_eq_zero_of_no_sems (by decide) r.2⟩)
    (Seg.run (by decide) (by decide) defs main _ whole m ρ)
  obtain ⟨W, hW, hm, hb⟩ := h c
  rw [hb main_arg0 (by decide)] at hW
  exact ⟨⟨W, hW, hm⟩, (hm _).trans (hb _ (by decide)), (hm _).trans (hb _ (by decide))⟩

/-- The reference's frame claim. -/
theorem frame : Cert.quiescent_ReferenceIdeal (hReferenceIdeal := Cert.ReferenceIdeal.Gen.facts) := fun m ρ _ =>
  (θ_run defs _ _).mono (fun _ h => ⟨fun c => ⟨(h.1 c).2.1, (h.1 c).2.2⟩, h.2⟩) (run m ρ)

end Cert.ReferenceIdeal.Line

end
-- ==== Proof.ArgMax.lean ====
module

public import proofs.«01_k».proof.Proof.KernelStep
public import proofs.«01_k».proof.Proof.RefRun

/-!
The reference's argmax of a row whose entries all lie above `−∞`: the first column at which the row is greatest.
-/

@[expose] public section

noncomputable section

namespace Cert.ReferenceIdeal.ArgMax

open Cert.ReferenceIdeal Cert.ReferenceIdeal.Gen Cert.ReferenceIdeal.Line Cert.Best
open Cert.KernelIdeal.Step (Arr row)
open Idealize.ShloMosaic Idealize.ShloMosaic.ValueIdx

/-- A value and its column. -/
abbrev Pair : Type := EReal × BitVec 32

/-- One pair is preferred to another: a greater value, or the same value with no greater column. -/
def Over (a b : Pair) : Prop := b.1 < a.1 ∨ b.1 = a.1 ∧ a.2.toInt ≤ b.2.toInt

/-- A pair is over itself. -/
theorem Over.refl (a : Pair) : Over a a := .inr ⟨rfl, le_rfl⟩

/-- Being over is transitive. -/
theorem Over.trans {a b c : Pair} (h : Over a b) (h' : Over b c) : Over a c := by
  rcases h with h | ⟨h, hi⟩ <;> rcases h' with h' | ⟨h', hi'⟩
  · exact .inl (h'.trans h)
  · exact .inl (h'.trans_lt h)
  · exact .inl (h'.trans_le h.le)
  · exact .inr ⟨h'.trans h, hi.trans hi'⟩

/-- The argmax's comparison keeps the preferred of two pairs. -/
theorem reducer (a b : Pair) : let c : Pair := reducer_argmax_f32_i32 (F := Ideal) a b
    (c = a ∧ Over a b) ∨ (c = b ∧ Over b a ∧ ¬ b.1 < a.1) := by
  obtain ⟨x, p⟩ := a
  obtain ⟨y, q⟩ := b
  have e : reducer_argmax_f32_i32 (F := Ideal) (x, p) (y, q)
      = (Scalar.select (IntOp.ori (Ideal.cmp .ogt x y) (Ideal.cmp .une x x)) x y,
        Scalar.select (IntOp.ori (IntOp.ori (Ideal.cmp .ogt x y) (Ideal.cmp .une x x))
          (IntOp.andi (Ideal.cmp .oeq x y) (IntOp.cmpi .slt p q))) p q) := rfl
  have hu : Ideal.cmp .une x x = 0#1 := by simp [Ideal.cmp]
  have hs : IntOp.cmpi .slt p q = if p.toInt < q.toInt then 1#1 else 0#1 := by
    by_cases h : p.toInt < q.toInt
    · rw [if_pos h]; exact congrArg BitVec.ofBool (decide_eq_true h)
    · rw [if_neg h]; exact congrArg BitVec.ofBool (decide_eq_false h)
  rw [e, hu, Cert.KernelIdeal.Lane.cmp_ogt, Cert.KernelIdeal.Lane.cmp_oeq, hs]
  rcases lt_trichotomy x y with h | h | h
  · right
    rw [if_neg (not_lt.mpr h.le), if_neg h.ne]
    refine ⟨?_, .inl h, not_lt.mpr h.le⟩
    split <;> rfl
  · subst h
    rw [if_neg (lt_irrefl _), if_pos rfl]
    by_cases hi : p.toInt < q.toInt
    · left; rw [if_pos hi]; exact ⟨rfl, .inr ⟨rfl, hi.le⟩⟩
    · right; rw [if_neg hi]; exact ⟨rfl, .inr ⟨rfl, not_lt.mp hi⟩, lt_irrefl _⟩
  · left
    rw [if_pos h, if_neg h.ne']
    refine ⟨?_, .inl h⟩
    split <;> rfl

/-- Folding the comparison over pairs whose values lie above `−∞`, from `−∞`, keeps one of them, preferred to all. -/
theorem fold (l : List Pair) (hl : l ≠ []) (h : ∀ b ∈ l, ⊥ < b.1) :
    ∃ a ∈ l, l.foldl (reducer_argmax_f32_i32 (F := Ideal)) (⊥, 0#32) = a ∧ ∀ b ∈ l, Over a b := by
  induction l using List.reverseRecOn with
  | nil => exact absurd rfl hl
  | append_singleton l b ih =>
    rw [List.foldl_concat]
    by_cases hn : l = []
    · subst hn
      refine ⟨b, by simp, ?_, fun c hc => ?_⟩
      · rcases reducer (⊥, 0#32) b with ⟨_, hc | ⟨hc, _⟩⟩ | ⟨hc, _⟩
        · exact absurd hc not_lt_bot
        · exact absurd hc (h b (by simp)).ne'
        · exact hc
      · rw [show c = b by simpa using hc]
        exact Over.refl b
    · obtain ⟨a, ha, he, ho⟩ := ih hn fun c hc => h c (by simp [hc])
      rw [he]
      rcases reducer a b with ⟨hc, hab⟩ | ⟨hc, hba, _⟩
      · refine ⟨a, by simp [ha], hc, fun c hc => ?_⟩
        rcases List.mem_append.mp hc with hc | hc
        · exact ho c hc
        · rw [show c = b by simpa using hc]; exact hab
      · refine ⟨b, by simp, hc, fun c hc => ?_⟩
        rcases List.mem_append.mp hc with hc | hc
        · exact hba.trans (ho c hc)
        · rw [show c = b by simpa using hc]; exact Over.refl b

/-- The pairs of a row. -/
def pairs (S : S128x100000.Idx → EReal) (j : S128.Idx) : List Pair :=
  Host.argReduceFiber (α := EReal) S (iotaInDim S128x100000 32 1) reducesTo_S128x100000_S128_d1 j

/-- An element lies in the fiber of its row. -/
theorem drop_row (i : S128x100000.Idx) : reducesTo_S128x100000_S128_d1.drop i = ix1 (i 0) := by
  have hv : (reducesTo_S128x100000_S128_d1.drop i 0 : Nat) = i 0 := Shape.ReducesTo.drop_apply_val reducesTo_S128x100000_S128_d1 i 0
  funext a
  have ha : a = 0 := Subsingleton.elim _ _
  subst ha
  exact Fin.ext hv

/-- The pairs of a row are its entries with their columns. -/
theorem mem_pairs (S : Arr) (r : Fin 128) (p : Pair) :
    p ∈ pairs S (ix1 r) ↔ ∃ k : Fin 100000, p = (S (ix2 r k), BitVec.ofNat 32 k.val) := by
  unfold pairs Host.argReduceFiber
  simp only [List.mem_map, List.mem_filter, List.mem_finRange, true_and, decide_eq_true_eq]
  constructor
  · rintro ⟨n, hn, rfl⟩
    rw [drop_row] at hn
    have h0 : S128x100000.rowMajor.symm n = ix2 r ((S128x100000.rowMajor.symm n) 1) :=
      (eq_ix2 _).trans (congrArg (fun q => ix2 q _) (congrFun hn 0))
    exact ⟨_, by rw [h0]; rfl⟩
  · rintro ⟨k, rfl⟩
    refine ⟨S128x100000.rowMajor (ix2 r k), ?_, ?_⟩
    · rw [Equiv.symm_apply_apply, drop_row]; rfl
    · rw [Equiv.symm_apply_apply]; rfl

/-- The column the comparison's fold over a list ends with. -/
def foldCol (l : List Pair) : BitVec 32 := (l.foldl (reducer_argmax_f32_i32 (F := Ideal)) (⊥, 0#32)).2

/-- The host's arg-reduction over the extended reals is the fold over the fiber, from its initial values. -/
theorem argReduce_fold {s t u : Shape} {axes : List (Fin s.rank)} (f : Pair → Pair → Pair) (x : s.Idx → EReal)
    (y : s.Idx → BitVec 32) (ix : u.Idx → EReal) (iy : u.Idx → BitVec 32) (h : s.ReducesTo axes t) (hu : 0 < u.numel)
    {b : EReal} {c : BitVec 32} (hb : ix (Shape.Idx.first hu) = b) (hc : iy (Shape.Idx.first hu) = c)
    {g : List Pair → BitVec 32} (hg : ∀ l, (l.foldl f (b, c)).2 = g l) {p : t.Idx → List Pair} (hp : ∀ j, Host.argReduceFiber x y h j = p j) :
    (fun j => (Host.argReduce (F := Ideal) (φ := .f32) f x y ix iy h hu j).2) = fun j => g (p j) := by
  subst hb
  subst hc
  funext j
  rw [← hp j]
  exact (congrArg Prod.snd ((congrFun (Ideal.argReduce_eq_reduce2 f x y ix iy h hu) j).trans
    (Host.reduce2_eq_foldl_fiber f x y ix iy h hu j))).trans (hg _)

/-- The reference's argmax is the host's arg-reduction, row by row. -/
theorem argmaxOf_eq {F : FTy → Type} [FloatOps F] (S : FVec F S128x100000 .f32) :
    argmaxOf S = fun j => (Host.argReduce reducer_argmax_f32_i32 S (iotaInDim S128x100000 32 1)
      (constant S_ .f32 0xFF800000#32) (constantI S_ 32 0#32) reducesTo_S128x100000_S128_d1 h_S_ j).2 := by
  delta argmaxOf
  rfl

/-- The reference's argmax of a row is the fold of its comparison over the row's pairs. -/
theorem argmaxOf_pairs (S : FVec Ideal S128x100000 .f32) : argmaxOf (F := Ideal) S = fun j => foldCol (pairs S j) :=
  (argmaxOf_eq (F := Ideal) S).trans
    (argReduce_fold (reducer_argmax_f32_i32 (F := Ideal)) S (iotaInDim S128x100000 32 1)
      (constant (F := Ideal) S_ .f32 0xFF800000#32) (constantI S_ 32 0#32) reducesTo_S128x100000_S128_d1 h_S_
      (b := ⊥) (c := 0#32) Score.neg_inf rfl (g := foldCol) (fun _ => rfl) (p := pairs S) fun _ => rfl)

/-- A list of a row's pairs, all above `−∞`, folds to the first column at which the row is greatest. -/
theorem foldCol_row (S : Arr) (h : ∀ i, ⊥ < S i) (r : Fin 128) (l : List Pair)
    (hm : ∀ p, p ∈ l ↔ ∃ k : Fin 100000, p = (S (ix2 r k), BitVec.ofNat 32 k.val)) :
    ∃ i, i < 100000 ∧ best (row S r) 100000 = some i ∧ foldCol l = BitVec.ofNat 32 i := by
  obtain ⟨a, ha, hf, ho⟩ := fold l
    (List.ne_nil_of_mem ((hm _).mpr ⟨(0 : Fin 100000), rfl⟩))
    (fun b hb => by obtain ⟨k, rfl⟩ := (hm b).mp hb; exact h _)
  obtain ⟨k, rfl⟩ := (hm a).mp ha
  refine ⟨k.val, k.isLt, Is.eq_best ?_, congrArg Prod.snd hf⟩
  have hr : ∀ j (hj : j < 100000), row S r j = S (ix2 r ⟨j, hj⟩) := fun j hj => Cert.KernelIdeal.Step.row_of_lt S r hj
  have hov : ∀ j : Fin 100000, S (ix2 r j) < S (ix2 r k) ∨ S (ix2 r j) = S (ix2 r k) ∧ k.val ≤ j.val := fun j => by
    rcases ho _ ((hm _).mpr ⟨j, rfl⟩) with h | ⟨h, hi⟩
    · exact .inl h
    · refine .inr ⟨h, ?_⟩
      have h1 := k.isLt
      have h2 := j.isLt
      have hi' : (BitVec.ofNat 32 k.val).toInt ≤ (BitVec.ofNat 32 j.val).toInt := hi
      rw [Cert.KernelIdeal.Lane.toInt_ofNat (by omega), Cert.KernelIdeal.Lane.toInt_ofNat (by omega)] at hi'
      exact_mod_cast hi'
  refine ⟨k.isLt, ?_, fun j hj => ?_, fun j hj => ?_⟩
  · rw [hr _ k.isLt]; exact h _
  · rw [hr _ k.isLt, hr _ hj]
    rcases hov ⟨j, hj⟩ with h | ⟨h, _⟩
    · exact h.le
    · exact h.le
  · have hj' := hj.trans k.isLt
    rw [hr _ k.isLt, hr _ hj']
    rcases hov ⟨j, hj'⟩ with h | ⟨_, h⟩
    · exact h
    · exact absurd h (not_le.mpr hj)

/-- The reference's argmax of a row whose entries all lie above `−∞` is the first column at which it is greatest. -/
theorem argmaxOf_row (S : S128x100000.Idx → EReal) (h : ∀ i, ⊥ < S i) (r : Fin 128) :
    ∃ i, i < 100000 ∧ best (row S r) 100000 = some i ∧ argmaxOf (F := Ideal) S (ix1 r) = BitVec.ofNat 32 i := by
  rw [argmaxOf_pairs]
  exact foldCol_row S h r _ (mem_pairs S r)

end Cert.ReferenceIdeal.ArgMax
-- ==== Proof.Chosen.lean ====
module

public import proofs.«01_k».proof.Proof.KernelStep
public import proofs.«01_k».proof.Proof.RefRun
public import Idealize.ShloMosaic.Lib.ReduceAll
public import Idealize.ShloMosaic.Lib.Pointwise

/-!
The logarithm of a chosen entry of a row divided by the row's sum: the reference looks the quotient up and takes its
logarithm, which is the difference of the two logarithms.
-/

@[expose] public section

noncomputable section

namespace Cert.Compare

open Cert.ReferenceIdeal Cert.ReferenceIdeal.Gen Cert.ReferenceIdeal.Line
open Cert.KernelIdeal.Step (Arr row row_of_lt)
open Cert.KernelIdeal.Lane (toInt_ofNat)
open Idealize.ShloMosaic hiding ix1 ix2 ix3
open Idealize.ShloMosaic.ValueIdx

/-- The logarithm of a quotient of a positive number by one no smaller. -/
theorem log_div {x s : EReal} (hx : 0 < x) (hs : x ≤ s) : Ideal.log (Ideal.div x s) = Ideal.log x - Ideal.log s := by
  have hs0 : 0 < s := hx.trans_le hs
  have hd : Ideal.div x s = x * s⁻¹ := by unfold Ideal.div; rw [if_neg hs0.ne']
  rw [hd]
  induction s using EReal.rec with
  | bot => exact absurd hs0 not_lt_bot
  | top =>
    rw [EReal.inv_top, mul_zero, sub_eq_add_neg]
    have ht : Ideal.log ⊤ = ⊤ := rfl
    have hz : Ideal.log 0 = ⊥ := by rw [← EReal.coe_zero, Ideal.log_coe]; simp
    rw [ht, hz, EReal.neg_top, EReal.add_bot]
  | coe s =>
    induction x using EReal.rec with
    | bot => exact absurd hx not_lt_bot
    | top => exact absurd (top_le_iff.mp hs) (EReal.coe_ne_top s)
    | coe x =>
      have hx' : 0 < x := EReal.coe_pos.mp hx
      have hs' : 0 < s := EReal.coe_pos.mp hs0
      rw [← EReal.coe_inv, ← EReal.coe_mul, Ideal.log_coe, Ideal.log_coe, Ideal.log_coe, if_neg (not_le.mpr (mul_pos hx' (inv_pos.mpr hs'))),
        if_neg (not_le.mpr hx'), if_neg (not_le.mpr hs'), ← div_eq_mul_inv, Real.log_div hx'.ne' hs'.ne', EReal.coe_sub]

/-- How the reference looks up one entry per row. -/
abbrev D : GatherDims S128x100000 S128x1x1 S128x1 := gather_S128x100000_S128x1x1_S128x1_n_1_0_0_1_2_11

/-- The rows are taken in step with the words. -/
theorem row_mem : (0 : Fin 2) ∈ D.operandBatchingDims := List.mem_singleton.mpr rfl

/-- The columns are what the words name. -/
theorem column_mem : (1 : Fin 2) ∈ D.startIndexMap := List.mem_singleton.mpr rfl

/-- Looking up, in each row, the column that the row's word names. -/
theorem gather_lane {α : Type} (Q : S128x100000.Idx → α) (J : IVec S128x1x1 32) (r : Fin 128) (i : Fin 100000)
    (hJ : J (ix3 r 0 0) = BitVec.ofNat 32 i.val) :
    Host.gather D Q J (ix2 r 0) = Q (ix2 r i) := by
  refine congrArg Q (funext fun a => Fin.ext ?_)
  show D.start (ix2 r 0) J a + D.batchCoord (ix2 r 0) a + D.offCoord (ix2 r 0) a = (ix2 r i a).val
  have ha : a = 0 ∨ a = 1 := by
    match a with
    | ⟨0, _⟩ => exact .inl rfl
    | ⟨1, _⟩ => exact .inr rfl
  rcases ha with rfl | rfl
  · rw [GatherDims.start_batching D _ _ _ row_mem, GatherDims.offCoord_eq_zero D _ _ fun h => ((GatherDims.mem_sKept D _).mp h).2 row_mem]
    unfold GatherDims.batchCoord
    rw [dif_pos row_mem, Nat.zero_add, Nat.add_zero]
    rfl
  · have hb : (1 : Fin 2) ∉ D.operandBatchingDims := fun h => absurd (List.mem_singleton.mp h) (by decide)
    rw [GatherDims.batchCoord_eq_zero D _ _ hb, GatherDims.offCoord_eq_zero D _ _ fun h => ((GatherDims.mem_sKept D _).mp h).1 column_mem]
    unfold GatherDims.start
    rw [dif_pos column_mem]
    have hs : D.siIdx (ix2 r 0) ⟨D.startIndexMap.idxOf 1, List.idxOf_lt_length_iff.2 column_mem⟩ = ix3 r 0 0 := by
      refine funext fun b => Fin.ext ?_
      match b with
      | ⟨0, _⟩ => rfl
      | ⟨1, _⟩ => rfl
      | ⟨2, _⟩ => rfl
    rw [hs, hJ, toInt_ofNat (i.isLt.trans (by decide)), Int.toNat_natCast]
    show min i.val (100000 - 1) + 0 + 0 = i.val
    have := i.isLt
    omega

/-- A column's number is not below zero, and is at most the last column's. -/
theorem column_bounds {i : ℕ} (hi : i < 100000) : IntOp.cmpi .slt (BitVec.ofNat 32 i) 0#32 = 0#1
    ∧ IntOp.cmpi .sge (BitVec.ofNat 32 i) 0#32 = 1#1 ∧ IntOp.cmpi .sle (BitVec.ofNat 32 i) 99999#32 = 1#1 := by
  have e : (BitVec.ofNat 32 i).toInt = i := toInt_ofNat (by omega)
  have z : (0#32 : BitVec 32).toInt = 0 := rfl
  have n : (99999#32 : BitVec 32).toInt = 99999 := rfl
  refine ⟨?_, ?_, ?_⟩
  · show BitVec.ofBool (decide ((BitVec.ofNat 32 i).toInt < (0#32 : BitVec 32).toInt)) = 0#1
    rw [e, z, decide_eq_false (by omega)]; rfl
  · show BitVec.ofBool (decide ((0#32 : BitVec 32).toInt ≤ (BitVec.ofNat 32 i).toInt)) = 1#1
    rw [e, z, decide_eq_true (by omega)]; rfl
  · show BitVec.ofBool (decide ((BitVec.ofNat 32 i).toInt ≤ (99999#32 : BitVec 32).toInt)) = 1#1
    rw [e, n, decide_eq_true (by omega)]; rfl

/-- The reference's lookup at a column inside the row. -/
theorem take_lane (Q : S128x100000.Idx → EReal) (I : IVec S128x1 32)
    (hI : ∀ r : Fin 128, ∃ i : Fin 100000, I (ix2 r 0) = BitVec.ofNat 32 i.val) (r : Fin 128) (i : Fin 100000)
    (hi : I (ix2 r 0) = BitVec.ofNat 32 i.val) : takeOf (F := Ideal) Q I (ix2 r 0) = Q (ix2 r i) := by
  have hsel : ∀ (r : Fin 128) (i : Fin 100000), I (ix2 r 0) = BitVec.ofNat 32 i.val →
      shapeCast S128x1x1 (select (cmpi .slt I (constantI S128x1 32 0#32)) (addi I (constantI S128x1 32 100000#32)) I) shapeCasts_S128x1_S128x1x1 (ix3 r 0 0)
        = BitVec.ofNat 32 i.val := fun r i hi => by
    refine (shapeCast_apply _ _ _ (ix2 r 0) (by rw [Shape.rowMajor_val_three, Shape.rowMajor_val_two]; simp)).trans ?_
    show Scalar.select (IntOp.cmpi .slt (I (ix2 r 0)) 0#32) (I (ix2 r 0) + 100000#32) (I (ix2 r 0)) = _
    rw [hi, (column_bounds i.isLt).1]
    rfl
  have hmask : ∀ (J : IVec S128x1x1 32), (∀ r : Fin 128, ∃ i : Fin 100000, J (ix3 r 0 0) = BitVec.ofNat 32 i.val) →
      Host.reduce IntOp.andi (andi (cmpi .sge J (constantI S128x1x1 32 0#32)) (cmpi .sle J (constantI S128x1x1 32 99999#32)))
        (constantI S_ 1 1#1) reducesTo_S128x1x1_S128x1_d2 h_S_ (ix2 r 0) = 1#1 := fun J hJ =>
    Host.reduce_andi_one _ _ _ _ _ rfl fun y => by
      have hy : ∃ q : Fin 128, y = ix3 q 0 0 := by
        refine ⟨y 0, (ValueIdx.eq_ix3 y).trans ?_⟩
        rw [Subsingleton.elim (α := Fin 1) (y 1) 0, Subsingleton.elim (α := Fin 1) (y 2) 0]
        rfl
      obtain ⟨q, rfl⟩ := hy
      obtain ⟨k, hk⟩ := hJ q
      show IntOp.andi (IntOp.cmpi .sge (J (ix3 q 0 0)) 0#32) (IntOp.cmpi .sle (J (ix3 q 0 0)) 99999#32) = 1#1
      rw [hk, (column_bounds k.isLt).2.1, (column_bounds k.isLt).2.2]
      rfl
  have hg := gather_lane Q _ r i (hsel r i hi)
  have hm := hmask _ fun r => (hI r).imp fun k hk => hsel r k hk
  have hchoose : ∀ (M : IVec S128x1 1) (u v : FVec Ideal S128x1 .f32), M (ix2 r 0) = 1#1 → select M u v (ix2 r 0) = u (ix2 r 0) := fun M u v h => by
    show Scalar.select (M (ix2 r 0)) _ _ = _
    rw [h]
    rfl
  exact (hchoose _ _ _ hm).trans hg

/-- The reference's quotient at an entry. -/
theorem quotient_lane (X : S128x100000.Idx → EReal) (r : Fin 128) (k : Fin 100000) :
    Host.divf (F := Ideal) X (broadcastInDim S128x100000 ![0, 1] bcast_S128x1_S128x100000_0_1
        (broadcastInDim S128x1 ![0] bcast_S128_S128x1_0 (Host.reduceAdd (F := Ideal) (φ := .f32) X (constant S_ .f32 0x00000000#32) reducesTo_S128x100000_S128_d1 h_S_))) (ix2 r k)
      = Ideal.div (X (ix2 r k)) (∑ k ∈ Finset.range 100000, row X r k) := by
  have e : ∀ t : FVec Ideal S128 .f32, Host.divf (F := Ideal) (φ := .f32) X (broadcastInDim S128x100000 ![0, 1] bcast_S128x1_S128x100000_0_1
      (broadcastInDim S128x1 ![0] bcast_S128_S128x1_0 t)) (ix2 r k) = Ideal.div (X (ix2 r k)) (t (ix1 r)) := fun t => by
    have hb : broadcastInDim S128x100000 ![0, 1] bcast_S128x1_S128x100000_0_1 (broadcastInDim S128x1 ![0] bcast_S128_S128x1_0 t) (ix2 r k) = t (ix1 r) :=
      congrArg t (funext fun a => by
        match a with
        | ⟨0, _⟩ => rfl)
    exact congrArg (Ideal.div (X (ix2 r k))) hb
  have h : Host.reduceAdd (F := Ideal) (φ := .f32) X (constant S_ .f32 0x00000000#32) reducesTo_S128x100000_S128_d1 h_S_ (ix1 r)
      = Ideal.hostReduceAdd reducesTo_S128x100000_S128_d1 X (Ideal.ofBits .f32 0x00000000#32) (ix1 r) := rfl
  rw [e, h, Ideal.hostReduceAdd_r2_a1, Ideal.ofBits_zero_f32, zero_add, Finset.sum_range]
  refine congrArg (Ideal.div (X (ix2 r k))) (Finset.sum_congr rfl fun k _ => ?_)
  rw [row_of_lt X r k.isLt]
  exact congrArg X (ValueIdx.eq_ix2 _)

/-- An entry of a row of positive numbers is at most the row's sum. -/
theorem entry_le_sum (X : Arr) (hX : ∀ i, 0 < X i) (r : Fin 128) (k : Fin 100000) :
    X (ix2 r k) ≤ ∑ k ∈ Finset.range 100000, row X r k := by
  rw [← row_of_lt X r k.isLt]
  refine Finset.single_le_sum (f := row X r) (fun j hj => ?_) (Finset.mem_range.mpr k.isLt)
  rw [row_of_lt X r (Finset.mem_range.mp hj)]
  exact (hX _).le

end Cert.Compare
-- ==== Proof.KernelRun.lean ====
module

public import proofs.«01_k».proof.Proof.KernelBody

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA scopedRest)

variable {F : FTy → Type} [FloatOps F]

local notation "𝕄" => MT nD τ sig Unit (Elt F) ℕ (UR sig nD τ) ℕ

/-- Owning `x`'s staging buffer at a block is holding it at contents that a whole load reads as the block. -/
theorem owns_in (c : Dev nD) (s0 : Fin 2) (X : FVec F S128x2048 .f32) :
    (owns (c : Thread nD τ) (stage0_0 s0) fullShare X : sProp 𝕄) ⊢
      iprop(∃ B : Buf (Elt F) ((stage0_0 s0).view.loc (c : Thread nD τ)), ⌜(stage0_0 s0).view.readAt (Elt F)
        (Rect.unit ![0, 0] S128x2048.size inb_S128x2048_S128x2048_0_0).toLoadRect B = X⌝
        ∗ ((stage0_0 s0).view.loc (c : Thread nD τ) ↦{fullShare} B)) := by
  fin_cases s0
  · have h := Memref.readAt_unit_zero (Elt F) cc0_stg0_0 hz inb_S128x2048_S128x2048_0_0
    rw [owns_whole_eq]
    iintro ⟨%f, %hf, H⟩
    iexists f
    isplitr; · ipureintro; exact (h f).trans hf
    iexact H
  · have h := Memref.readAt_unit_zero (Elt F) cc0_stg0_1 hz inb_S128x2048_S128x2048_0_0
    rw [owns_whole_eq]
    iintro ⟨%f, %hf, H⟩
    iexists f
    isplitr; · ipureintro; exact (h f).trans hf
    iexact H

/-- And back. -/
theorem owns_out (c : Dev nD) (s0 : Fin 2) (X : FVec F S128x2048 .f32) (B : Buf (Elt F) ((stage0_0 s0).view.loc (c : Thread nD τ)))
    (hB : (stage0_0 s0).view.readAt (Elt F) (Rect.unit ![0, 0] S128x2048.size inb_S128x2048_S128x2048_0_0).toLoadRect B = X) :
    iprop((stage0_0 s0).view.loc (c : Thread nD τ) ↦{fullShare} B) ⊢ (owns (c : Thread nD τ) (stage0_0 s0) fullShare X : sProp 𝕄) := by
  fin_cases s0
  · have h := Memref.readAt_unit_zero (Elt F) cc0_stg0_0 hz inb_S128x2048_S128x2048_0_0
    rw [owns_whole_eq]
    iintro H
    iexists B
    isplitr; · ipureintro; exact (h B).symm.trans hB
    iexact H
  · have h := Memref.readAt_unit_zero (Elt F) cc0_stg0_1 hz inb_S128x2048_S128x2048_0_0
    rw [owns_whole_eq]
    iintro H
    iexists B
    isplitr; · ipureintro; exact (h B).symm.trans hB
    iexact H

variable (m : (ℓ : Loc nD τ sig) → Buf (Elt F) ℓ) (ρ : Dev nD → PrngReg)

/-- `x`'s block at point `t` as the fetch reads it: its part inside the array. -/
def xblk (c : Dev nD) (t : Fin cfg0.N) : (win0_0.xblock (grid0.coords t)).Idx → Elt F .f32 :=
  (win0_0.blk t).view.read (Elt F) (m ((c : Thread nD τ).loc main_arg0))

/-- The seven scratch buffers at contents `s`. -/
abbrev scr (c : Dev nD) (s : Scr F) : sProp 𝕄 :=
  iprop(((Memref.whole cc0_scratch0).view.loc (c : Thread nD τ) ↦{fullShare} s.gxv)
    ∗ ((Memref.whole cc0_scratch1).view.loc (c : Thread nD τ) ↦{fullShare} s.gxi)
    ∗ ((Memref.whole cc0_scratch2).view.loc (c : Thread nD τ) ↦{fullShare} s.gsv)
    ∗ ((Memref.whole cc0_scratch3).view.loc (c : Thread nD τ) ↦{fullShare} s.gsi)
    ∗ ((Memref.whole cc0_scratch4).view.loc (c : Thread nD τ) ↦{fullShare} s.gsl)
    ∗ ((Memref.whole cc0_scratch5).view.loc (c : Thread nD τ) ↦{fullShare} s.rs)
    ∗ ((Memref.whole cc0_scratch6).view.loc (c : Thread nD τ) ↦{fullShare} s.ea))

variable (P : Dev nD → ℕ → Scr F → Prop) (O : Dev nD → Scr F)

/-- The loop's invariant: before the first point the class's own; after `n > 0` points the scratch buffers hold
    contents that satisfy `P c n`. -/
def inv (c : Dev nD) (n : ℕ) : sProp 𝕄 :=
  match n with
  | 0 => ΦA spec0 c
  | n + 1 => iprop((∃ s : Scr F, ⌜P c (n + 1) s⌝ ∗ scr c s) ∗ ∃ r, prngReg c r)

/-- The proof data: the arrays as launched; `x`'s staging buffer at its block; the results' staging buffers, at the last
    point, at what the contents `O c` give. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (xblk m c t)
    | ⟨1, _⟩ => (O c).gsi
    | ⟨2, _⟩ => (O c).lg
    | ⟨3, _⟩ => (O c).en
    | ⟨4, _⟩ => (O c).mt
  Φ t := inv P c t.val
  q _ := fullShare
  owed _ := 0

/-- Before a point's body the input's staging buffer holds the point's block. -/
theorem before_0 (c : Dev nD) (t : Fin cfg0.N) (d) :
    (dats m P O 0 c).before (0 : Fin 5) t d = win0_0.fill (grid0.coords t) d (xblk m c t) := by
  unfold Dat.before; rw [if_pos (fetch0_0 t)]; rfl

/-- The coordinate of a grid point is its number. -/
theorem coord_val (t : Fin cfg0.N) : (grid0.coords t 0).val = t.val := by
  have h : ∀ t : Fin 49, (grid0.coords t 0).val = t.val := by decide
  exact h t

/-- What the invariant must satisfy: it holds after the first block, passes from each block to the next, and gives the
    results at the end. A block is the array's part inside the staging buffer, whatever lies past the array's end. -/
structure Good : Prop where
  first : ∀ c (t : Fin cfg0.N) d, t.val = 0 →
    P c 1 (Scr.step (grid0.coords t) (win0_0.fill (grid0.coords t) d (xblk m c t)) Scr.init)
  next : ∀ c (t : Fin cfg0.N) d s, t.val ≠ 0 → P c t.val s →
    P c (t.val + 1) (Scr.step (grid0.coords t) (win0_0.fill (grid0.coords t) d (xblk m c t)) s)
  last : ∀ c s, P c 49 s → s = O c

/-- A whole buffer owned at contents is the buffer held at them, -/
theorem whole_in (c : Dev nD) (b : Ref sig .tc) (X : b.ty.Contents (Elt F)) :
    (owns (c : Thread nD τ) (Memref.whole b) fullShare X : sProp 𝕄)
      ⊢ iprop((Memref.whole b).view.loc (c : Thread nD τ) ↦{fullShare} X) := by
  rw [owns_whole_eq]
  iintro ⟨%f, %hf, H⟩
  subst hf
  iexact H

/-- and back. -/
theorem whole_out (c : Dev nD) (b : Ref sig .tc) (X : b.ty.Contents (Elt F)) :
    iprop((Memref.whole b).view.loc (c : Thread nD τ) ↦{fullShare} X)
      ⊢ (owns (c : Thread nD τ) (Memref.whole b) fullShare X : sProp 𝕄) := by
  rw [owns_whole_eq]
  iintro H
  iexists X
  isplitr; · ipureintro; rfl
  iexact H

/-- The class's invariant, the scratch buffers named. -/
theorem ΦA_eq (c : Dev nD) : (ΦA spec0 c : sProp 𝕄) ⊣⊢ iprop((∃ s : Scr F, scr c s) ∗ ∃ r, prngReg c r) := by
  unfold Pipeline.ΦA
  rw [scopedRest0_eq c]
  constructor
  · iintro ⟨⟨⟨%a, S0⟩, ⟨%b, S1⟩, ⟨%d, S2⟩, ⟨%e, S3⟩, ⟨%f, S4⟩, ⟨%g, S5⟩, ⟨%h, S6⟩⟩, Hr⟩
    isplitr [Hr]
    · iexists (⟨a, b, d, e, f, g, h⟩ : Scr F)
      isplitl [S0]; · iexact S0
      isplitl [S1]; · iexact S1
      isplitl [S2]; · iexact S2
      isplitl [S3]; · iexact S3
      isplitl [S4]; · iexact S4
      isplitl [S5]; · iexact S5
      iexact S6
    iexact Hr
  · iintro ⟨⟨%s, S0, S1, S2, S3, S4, S5, S6⟩, Hr⟩
    isplitr [Hr]
    · isplitl [S0]; · iexists s.gxv; iexact S0
      isplitl [S1]; · iexists s.gxi; iexact S1
      isplitl [S2]; · iexists s.gsv; iexact S2
      isplitl [S3]; · iexists s.gsi; iexact S3
      isplitl [S4]; · iexists s.gsl; iexact S4
      isplitl [S5]; · iexists s.rs; iexact S5
      iexists s.ea; iexact S6
    iexact Hr

/-- The body over whichever buffers its output windows are on (each has one) is `prog`. -/
theorem body_slots (i : grid0.Coords) (s0 : Fin 2) (s1 s2 s3 s4 : Fin 1) :
    cc0__body (F := F) i (stage0_0 s0) (hstage0_0 s0) (stage0_1 s1) (hstage0_1 s1) (stage0_2 s2) (hstage0_2 s2)
      (stage0_3 s3) (hstage0_3 s3) (stage0_4 s4) (hstage0_4 s4) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      = prog i (stage0_0 s0) (hstage0_0 s0) := by
  obtain rfl : s1 = 0 := Subsingleton.elim _ _
  obtain rfl : s2 = 0 := Subsingleton.elim _ _
  obtain rfl : s3 = 0 := Subsingleton.elim _ _
  obtain rfl : s4 = 0 := Subsingleton.elim _ _
  rfl

attribute [local irreducible] Scr.mt in
/-- What the matches' staging buffer holds at the last point. -/
theorem after_4 (c : Dev nD) (t : Fin cfg0.N) : (dats m P O 0 c).after (4 : Fin 5) t = (O c).mt := rfl

/-- Each point's body carries the invariant from the blocks before it to its own. -/
theorem body_obligation (hP : Good m P O) (c : Dev nD) :
    BodyObligationLoose (dats m P O 0 c) (defs₀ (F := F)) Variants.none () Set.univ := fun t => by
  rw [bigSep_W0, bigSep_W0]
  have hrow : defs₀ (F := F) .tc cfg0.body (cfg0.bodyArgs t (cfg0.slots t))
      = prog (grid0.coords t) (stage0_0 (cfg0.slots t 0)) (hstage0_0 (cfg0.slots t 0)) := by
    unfold defs₀; rw [Defs.onTc_tc]; exact body_slots (F := F) _ _ _ _ _ _
  rw [hrow]
  have hcoord := coord_val t
  have h49 : t.val < 49 := t.isLt
  simp only
  rw [show (dats m P O 0 c).owesAt () t.succ = (dats m P O 0 c).owesAt () t.castSucc from rfl,
    show (dats m P O 0 c).Φ t.castSucc = inv P c t.val from rfl, show (dats m P O 0 c).Φ t.succ = inv P c (t.val + 1) from rfl]
  have hcut : win0_0.cut (grid0.coords t) (win0_0.fill (grid0.coords t) (fun _ => (Scalar.ofBits .f32 0#32 : F .f32)) (xblk m c t))
      = xblk m c t := win0_0.cut_fill _ _ _
  have hcut' : ∀ d, (win0 0).fill (grid0.coords t) d ((win0 0).cut (grid0.coords t) ((dats m P O 0 c).after 0 t))
      = win0_0.fill (grid0.coords t) d (xblk m c t) := fun d => congrArg (win0_0.fill (grid0.coords t) d) hcut
  generalize hb0 : (dats m P O 0 c).before 0 t = b0
  generalize hb1 : (dats m P O 0 c).before 1 t = b1
  generalize hb2 : (dats m P O 0 c).before 2 t = b2
  generalize hb3 : (dats m P O 0 c).before 3 t = b3
  generalize hb4 : (dats m P O 0 c).before 4 t = b4
  generalize (dats m P O 0 c).owesAt () t.castSucc = ow
  rw [show cfg0.slots t 1 = (0 : Fin 1) from Subsingleton.elim _ _, show cfg0.slots t 2 = (0 : Fin 1) from Subsingleton.elim _ _,
    show cfg0.slots t 3 = (0 : Fin 1) from Subsingleton.elim _ _, show cfg0.slots t 4 = (0 : Fin 1) from Subsingleton.elim _ _]
  by_cases h48 : t.val = 48
  · have hidle : (!(k0_cond2 (grid0.coords t) == 1#1)) = false := by
      have : k0_cond2 (grid0.coords t) = 1#1 := (last_iff _).2 (hcoord.trans h48)
      simp [this]
    have i1 : idle0 1 (grid0.coords t) = false := hidle
    rw [i1]
    simp only
    rw [show inv P c t.val = iprop((∃ s : Scr F, ⌜P c t.val s⌝ ∗ scr c s) ∗ ∃ r, prngReg c r) from by rw [h48]; rfl,
      show inv P c (t.val + 1) = iprop((∃ s : Scr F, ⌜P c (t.val + 1) s⌝ ∗ scr c s) ∗ ∃ r, prngReg c r) from rfl]
    iintro ⟨HΦ, Ho, ⟨%d0, H0⟩, ⟨%d1, H1⟩, ⟨%d2, H2⟩, ⟨%d3, H3⟩, ⟨%d4, H4⟩⟩
    rw [show b0 d0 = win0_0.fill (grid0.coords t) d0 (xblk m c t) from by rw [← hb0]; exact before_0 m P O c t d0]
    ihave ⟨%B, %hB, H0⟩ := owns_in c (cfg0.slots t 0) _ $$ H0
    ihave H1 := whole_in c cc0_stg1_0 _ $$ H1
    ihave H2 := whole_in c cc0_stg2_0 _ $$ H2
    ihave H3 := whole_in c cc0_stg3_0 _ $$ H3
    ihave H4 := whole_in c cc0_stg4_0 _ $$ H4
    icases HΦ with ⟨⟨%s, %hs, S0, S1, S2, S3, S4, S5, S6⟩, Hr⟩
    have hn := hP.next c t d0 s (by omega) hs
    have hO : Scr.step (grid0.coords t) (win0_0.fill (grid0.coords t) d0 (xblk m c t)) s = O c :=
      hP.last c _ (by rw [h48] at hn; exact hn)
    rw [show (dats m P O 0 c).after 1 t = (O c).gsi from rfl, show (dats m P O 0 c).after 2 t = (O c).lg from rfl,
      show (dats m P O 0 c).after 3 t = (O c).en from rfl, after_4, ← hO]
    iapply (body_last c (grid0.coords t) (stage0_0 (cfg0.slots t 0)) (hstage0_0 (cfg0.slots t 0)) (hcoord.trans h48) B _ hB _ _ _ _ s _)
    isplitl [H0 H1 H2 H3 H4 S0 S1 S2 S3 S4 S5 S6]
    · isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      isplitl [S4]; · iexact S4
      isplitl [S5]; · iexact S5
      iexact S6
    iintro ⟨H0, H1, H2, H3, H4, S0, S1, S2, S3, S4, S5, S6⟩
    isplitl [S0 S1 S2 S3 S4 S5 S6 Hr]
    · isplitr [Hr]
      · iexists _
        isplitr
        · ipureintro; exact hn
        isplitl [S0]; · iexact S0
        isplitl [S1]; · iexact S1
        isplitl [S2]; · iexact S2
        isplitl [S3]; · iexact S3
        isplitl [S4]; · iexact S4
        isplitl [S5]; · iexact S5
        iexact S6
      · iexact Hr
    isplitl [Ho]; · iexact Ho
    isplitl [H0]
    · iexists d0
      rw [hcut']
      iapply (owns_out c (cfg0.slots t 0) _ B hB)
      iexact H0
    isplitl [H1]; · iapply (whole_out c cc0_stg1_0 _); iexact H1
    isplitl [H2]; · iapply (whole_out c cc0_stg2_0 _); iexact H2
    isplitl [H3]; · iapply (whole_out c cc0_stg3_0 _); iexact H3
    iapply (whole_out c cc0_stg4_0 _); iexact H4
  have hidle : (!(k0_cond2 (grid0.coords t) == 1#1)) = true := by
    have : ¬ k0_cond2 (grid0.coords t) = 1#1 := fun h => h48 (hcoord ▸ (last_iff _).1 h)
    simp [this]
  have hfl : ∀ {a : Bool}, (a = true ↔ t.val % 49 = 48) → a = false := fun {a} h => by
    cases a
    · rfl
    · have := h.1 rfl; omega
  have f1 : (win0 1).flush t = false := hfl (flush0_1 t)
  have f2 : (win0 2).flush t = false := hfl (flush0_2 t)
  have f3 : (win0 3).flush t = false := hfl (flush0_3 t)
  have f4 : (win0 4).flush t = false := hfl (flush0_4 t)
  have i1 : idle0 1 (grid0.coords t) = true := hidle
  rw [i1, f1, f2, f3, f4]
  simp only
  by_cases h0 : t.val = 0
  · rw [show inv P c t.val = ΦA spec0 c from by rw [h0]; rfl,
      show inv P c (t.val + 1) = iprop((∃ s : Scr F, ⌜P c (t.val + 1) s⌝ ∗ scr c s) ∗ ∃ r, prngReg c r) from rfl]
    iintro ⟨HΦ, Ho, ⟨%d0, H0⟩, ⟨%d1, H1⟩, ⟨%d2, H2⟩, ⟨%d3, H3⟩, ⟨%d4, H4⟩⟩
    rw [show b0 d0 = win0_0.fill (grid0.coords t) d0 (xblk m c t) from by rw [← hb0]; exact before_0 m P O c t d0]
    ihave ⟨%B, %hB, H0⟩ := owns_in c (cfg0.slots t 0) _ $$ H0
    ihave H1 := whole_in c cc0_stg1_0 _ $$ H1
    ihave H2 := whole_in c cc0_stg2_0 _ $$ H2
    ihave H3 := whole_in c cc0_stg3_0 _ $$ H3
    ihave H4 := whole_in c cc0_stg4_0 _ $$ H4
    ihave ⟨⟨%s, S0, S1, S2, S3, S4, S5, S6⟩, Hr⟩ := (ΦA_eq c).1 $$ HΦ
    have hn := hP.first c t d0 h0
    iapply (body_first c (grid0.coords t) (stage0_0 (cfg0.slots t 0)) (hstage0_0 (cfg0.slots t 0)) (hcoord.trans h0) B _ hB _ _ _ _ s _)
    isplitl [H0 H1 H2 H3 H4 S0 S1 S2 S3 S4 S5 S6]
    · isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      isplitl [S4]; · iexact S4
      isplitl [S5]; · iexact S5
      iexact S6
    iintro ⟨H0, H1, H2, H3, H4, S0, S1, S2, S3, S4, S5, S6⟩
    isplitl [S0 S1 S2 S3 S4 S5 S6 Hr]
    · isplitr [Hr]
      · iexists _
        isplitr
        · ipureintro; exact (by rw [h0]; exact hn)
        isplitl [S0]; · iexact S0
        isplitl [S1]; · iexact S1
        isplitl [S2]; · iexact S2
        isplitl [S3]; · iexact S3
        isplitl [S4]; · iexact S4
        isplitl [S5]; · iexact S5
        iexact S6
      · iexact Hr
    isplitl [Ho]; · iexact Ho
    isplitl [H0]
    · iexists d0
      rw [hcut']
      iapply (owns_out c (cfg0.slots t 0) _ B hB)
      iexact H0
    isplitl [H1]; · iexists d1; iapply (whole_out c cc0_stg1_0 _); iexact H1
    isplitl [H2]; · iexists d2; iapply (whole_out c cc0_stg2_0 _); iexact H2
    isplitl [H3]; · iexists d3; iapply (whole_out c cc0_stg3_0 _); iexact H3
    iexists d4; iapply (whole_out c cc0_stg4_0 _); iexact H4
  · rw [show inv P c t.val = iprop((∃ s : Scr F, ⌜P c t.val s⌝ ∗ scr c s) ∗ ∃ r, prngReg c r) from by
        obtain ⟨n, hn⟩ := Nat.exists_eq_succ_of_ne_zero h0; rw [hn]; rfl,
      show inv P c (t.val + 1) = iprop((∃ s : Scr F, ⌜P c (t.val + 1) s⌝ ∗ scr c s) ∗ ∃ r, prngReg c r) from rfl]
    iintro ⟨HΦ, Ho, ⟨%d0, H0⟩, ⟨%d1, H1⟩, ⟨%d2, H2⟩, ⟨%d3, H3⟩, ⟨%d4, H4⟩⟩
    rw [show b0 d0 = win0_0.fill (grid0.coords t) d0 (xblk m c t) from by rw [← hb0]; exact before_0 m P O c t d0]
    ihave ⟨%B, %hB, H0⟩ := owns_in c (cfg0.slots t 0) _ $$ H0
    ihave H1 := whole_in c cc0_stg1_0 _ $$ H1
    ihave H2 := whole_in c cc0_stg2_0 _ $$ H2
    ihave H3 := whole_in c cc0_stg3_0 _ $$ H3
    ihave H4 := whole_in c cc0_stg4_0 _ $$ H4
    icases HΦ with ⟨⟨%s, %hs, S0, S1, S2, S3, S4, S5, S6⟩, Hr⟩
    have hn := hP.next c t d0 s h0 hs
    iapply (body_mid c (grid0.coords t) (stage0_0 (cfg0.slots t 0)) (hstage0_0 (cfg0.slots t 0)) (by rw [hcoord]; exact h0) (by rw [hcoord]; exact h48) B _ hB _ _ _ _ s _)
    isplitl [H0 H1 H2 H3 H4 S0 S1 S2 S3 S4 S5 S6]
    · isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      isplitl [S4]; · iexact S4
      isplitl [S5]; · iexact S5
      iexact S6
    iintro ⟨H0, H1, H2, H3, H4, S0, S1, S2, S3, S4, S5, S6⟩
    isplitl [S0 S1 S2 S3 S4 S5 S6 Hr]
    · isplitr [Hr]
      · iexists _
        isplitr
        · ipureintro; exact hn
        isplitl [S0]; · iexact S0
        isplitl [S1]; · iexact S1
        isplitl [S2]; · iexact S2
        isplitl [S3]; · iexact S3
        isplitl [S4]; · iexact S4
        isplitl [S5]; · iexact S5
        iexact S6
      · iexact Hr
    isplitl [Ho]; · iexact Ho
    isplitl [H0]
    · iexists d0
      rw [hcut']
      iapply (owns_out c (cfg0.slots t 0) _ B hB)
      iexact H0
    isplitl [H1]; · iexists d1; iapply (whole_out c cc0_stg1_0 _); iexact H1
    isplitl [H2]; · iexists d2; iapply (whole_out c cc0_stg2_0 _); iexact H2
    isplitl [H3]; · iexists d3; iapply (whole_out c cc0_stg3_0 _); iexact H3
    iexists d4; iapply (whole_out c cc0_stg4_0 _); iexact H4

/-- The last grid point. -/
def tEnd : Fin cfg0.N := ⟨48, by decide⟩

/-- A window written back at the last point has its block of the array at what the last body left. -/
theorem flushed_last (w : Fin 5) (c : Dev nD) (h : (cfg0.win w).flush tEnd = true) :
    ((cfg0.win w).blk tEnd).view.read (Elt F) ((dats m P O 0 c).arrAt w cfg0.N) = (dats m P O 0 c).flushed w tEnd := by
  rw [show cfg0.N = tEnd.val + 1 from rfl, (dats m P O 0 c).arrAt_succ w tEnd, h, if_pos rfl]
  exact View.read_write_univ _ _

/-- After a body the staging buffer of the draws holds them, -/
theorem after_1 (c : Dev nD) (t : Fin cfg0.N) : (dats m P O 0 c).after (1 : Fin 5) t = (O c).gsi := rfl
/-- that of the logarithms, -/
theorem after_2 (c : Dev nD) (t : Fin cfg0.N) : (dats m P O 0 c).after (2 : Fin 5) t = (O c).lg := rfl
/-- and that of the entropy. -/
theorem after_3 (c : Dev nD) (t : Fin cfg0.N) : (dats m P O 0 c).after (3 : Fin 5) t = (O c).en := rfl

/-- What the run leaves in the array of the draws, -/
theorem arr_1 (c : Dev nD) : (dats m P O 0 c).arrAt (1 : Fin 5) cfg0.N = (O c).gsi := by
  have hw := flushed_last (P := P) (O := O) m 1 c ((flush0_1 tEnd).2 rfl)
  have hf : (dats m P O 0 c).flushed 1 tEnd = (O c).gsi := by
    show (cfg0.win 1).cut _ ((dats m P O 0 c).after 1 tEnd) = _
    rw [after_1]
    exact funext fun _ => rfl
  rw [hf] at hw
  exact (Memref.read_access_unit_zero (Elt F) main_v0_0
    (show (fun a => (win0_1.index tEnd) a * main_v0_0.ty.shape.size a) = fun _ => 0 from
      funext fun a => by fin_cases a <;> decide) (fun a => by fin_cases a <;> decide) _).symm.trans hw

/-- of the logarithms, -/
theorem arr_2 (c : Dev nD) : (dats m P O 0 c).arrAt (2 : Fin 5) cfg0.N = (O c).lg := by
  have hw := flushed_last (P := P) (O := O) m 2 c ((flush0_2 tEnd).2 rfl)
  have hf : (dats m P O 0 c).flushed 2 tEnd = (O c).lg := by
    show (cfg0.win 2).cut _ ((dats m P O 0 c).after 2 tEnd) = _
    rw [after_2]
    exact funext fun _ => rfl
  rw [hf] at hw
  exact (Memref.read_access_unit_zero (Elt F) main_v0_1
    (show (fun a => (win0_2.index tEnd) a * main_v0_1.ty.shape.size a) = fun _ => 0 from
      funext fun a => by fin_cases a <;> decide) (fun a => by fin_cases a <;> decide) _).symm.trans hw

/-- of the entropy, -/
theorem arr_3 (c : Dev nD) : (dats m P O 0 c).arrAt (3 : Fin 5) cfg0.N = (O c).en := by
  have hw := flushed_last (P := P) (O := O) m 3 c ((flush0_3 tEnd).2 rfl)
  have hf : (dats m P O 0 c).flushed 3 tEnd = (O c).en := by
    show (cfg0.win 3).cut _ ((dats m P O 0 c).after 3 tEnd) = _
    rw [after_3]
    exact funext fun _ => rfl
  rw [hf] at hw
  exact (Memref.read_access_unit_zero (Elt F) main_v0_2
    (show (fun a => (win0_3.index tEnd) a * main_v0_2.ty.shape.size a) = fun _ => 0 from
      funext fun a => by fin_cases a <;> decide) (fun a => by fin_cases a <;> decide) _).symm.trans hw

/-- and of the matches. -/
theorem arr_4 (c : Dev nD) : (dats m P O 0 c).arrAt (4 : Fin 5) cfg0.N = (O c).mt := by
  have hw := flushed_last (P := P) (O := O) m 4 c ((flush0_4 tEnd).2 rfl)
  have hf : (dats m P O 0 c).flushed 4 tEnd = (O c).mt := by
    show (cfg0.win 4).cut _ ((dats m P O 0 c).after 4 tEnd) = _
    rw [after_4]
    exact funext fun _ => rfl
  rw [hf] at hw
  exact (Memref.read_access_unit_zero (Elt F) main_v0_3
    (show (fun a => (win0_4.index tEnd) a * main_v0_3.ty.shape.size a) = fun _ => 0 from
      funext fun a => by fin_cases a <;> decide) (fun a => by fin_cases a <;> decide) _).symm.trans hw

set_option backward.isDefEq.respectTransparency.types false in
/-- The kernel's run: every device's arguments end as launched, its results at what the contents `O c` give, and every
    semaphore at zero. -/
theorem run (hP : Good m P O) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = shapeCast S128 (O c).gsi shapeCasts_S128x1_S128
      ∧ r.2.mem ((c.tc : Thread nD τ).loc main_v2) = shapeCast S128 (O c).lg shapeCasts_S128x1_S128
      ∧ r.2.mem ((c.tc : Thread nD τ).loc main_v3) = shapeCast S_ (O c).en shapeCasts_S1x1_S_
      ∧ r.2.mem ((c.tc : Thread nD τ).loc main_v4) = shapeCast S_ (O c).mt shapeCasts_S1x1_S_
      ∧ r.2.mem ((c.tc : Thread nD τ).loc main_c) = constantI S_ 32 128#32)
    ∧ r.2.sem = fun _ => 0) := by
  refine Pipeline.θ_run_frame_around_track cfgs (dats m P O) 0 launch0 (defs₀ (F := F)) Variants.none m ρ main
    (fun c => body_obligation m P O hP c) (fun c => (dats m P O 0 c).share_full fun _ => rfl) (fun _ _ => rfl) (V0 m) [hostOps1]
    sfx_sub sfx_fresh sfx_keeps (hmain m Variants.none) (fun _ _ => rfl) (fun c => BIBase.Entails.rfl) ?_ _ ?_
  · intro c
    show iprop((∃ s : Scr F, ⌜P c 49 s⌝ ∗ scr c s) ∗ ∃ r, prngReg c r) ⊢ _
    iintro ⟨⟨%s, %hs, S⟩, Hr⟩
    iapply (ΦA_eq c).2
    isplitl [S]; · iexists s; iexact S
    iexact Hr
  · rintro r ⟨h, hsem⟩
    refine ⟨fun c => ?_, hsem⟩
    have rd : ∀ b, b ∈ Pipeline.restRefs sig spec0 → _ := fun b hb => (h c).2 b hb
    refine ⟨((h c).1 0).trans ((dats m P O 0 c).arrAt_in 0 rfl _), (rd main_arg1 (Pipeline.mem_restRefs_of main_arg1 (by decide) (by decide))).trans (W_main_arg1 m (dats m P O) c),
      ?_, ?_, ?_, ?_, ?_⟩
    · refine (rd main_v1 (Pipeline.mem_restRefs_of main_v1 (by decide) (by decide))).trans ?_
      unfold Pipeline.afterTail₀
      simp only [List.flatten_cons, List.flatten_nil, List.append_nil]
      after_results
      exact congrArg (fun v => shapeCast S128 v _) ((Pipeline.withArrays_arr spec0 winFacts0.arr_inj c (V0 m c) _ (1 : Fin 5)).trans (arr_1 m P O c))
    · refine (rd main_v2 (Pipeline.mem_restRefs_of main_v2 (by decide) (by decide))).trans ?_
      unfold Pipeline.afterTail₀
      simp only [List.flatten_cons, List.flatten_nil, List.append_nil]
      after_results
      exact congrArg (fun v => shapeCast S128 v _) ((Pipeline.withArrays_arr spec0 winFacts0.arr_inj c (V0 m c) _ (2 : Fin 5)).trans (arr_2 m P O c))
    · refine (rd main_v3 (Pipeline.mem_restRefs_of main_v3 (by decide) (by decide))).trans ?_
      unfold Pipeline.afterTail₀
      simp only [List.flatten_cons, List.flatten_nil, List.append_nil]
      after_results
      exact congrArg (fun v => shapeCast S_ v _) ((Pipeline.withArrays_arr spec0 winFacts0.arr_inj c (V0 m c) _ (3 : Fin 5)).trans (arr_3 m P O c))
    · refine (rd main_v4 (Pipeline.mem_restRefs_of main_v4 (by decide) (by decide))).trans ?_
      unfold Pipeline.afterTail₀
      simp only [List.flatten_cons, List.flatten_nil, List.append_nil]
      after_results
      exact congrArg (fun v => shapeCast S_ v _) ((Pipeline.withArrays_arr spec0 winFacts0.arr_inj c (V0 m c) _ (4 : Fin 5)).trans (arr_4 m P O c))
    · refine (rd main_c (Pipeline.mem_restRefs_of main_c (by decide) (by decide))).trans ?_
      unfold Pipeline.afterTail₀
      simp only [List.flatten_cons, List.flatten_nil, List.append_nil]
      after_results

end Cert.KernelIdeal.Body
-- ==== Proof.KernelBlock.lean ====
module

public import proofs.«01_k».proof.Proof.KernelRun
public import Idealize.ShloMosaic.Lib.ValueIdx

/-!
The weights' block at a grid point: at a lane inside the array it is the weight there.
-/

@[expose] public section

noncomputable section

namespace Cert.KernelIdeal.Body

open Cert.KernelIdeal Cert.KernelIdeal.Gen
open Idealize.ShloMosaic Idealize.ShloMosaic.TcCoe Idealize.ShloMosaic.ValueIdx

variable {F : FTy → Type} [FloatOps F]

/-- How many rows a fetch moves. -/
theorem xsize_0 (t : Fin cfg0.N) : win0_0.xsize (grid0.coords t) (0 : Fin 2) = 128 := by
  have h : ∀ t : Fin 49, win0_0.xsize (grid0.coords t) (0 : Fin 2) = 128 := by decide
  exact h t

/-- How many columns: all of the block's, but at the array's end those inside it. -/
theorem xsize_1 (t : Fin cfg0.N) : win0_0.xsize (grid0.coords t) (1 : Fin 2) = min 2048 (100000 - 2048 * t.val) := by
  have h : ∀ t : Fin 49, win0_0.xsize (grid0.coords t) (1 : Fin 2) = min 2048 (100000 - 2048 * t.val) := by decide
  exact h t

/-- The block's place along the columns. -/
theorem start_1 (t : Fin cfg0.N) : cc0_transform_0 (grid0.coords t) 1 = t.val := by
  have h : ∀ t : Fin 49, cc0_transform_0 (grid0.coords t) 1 = t.val := by decide
  exact h t

variable (m : (ℓ : Loc nD τ sig) → Buf (Elt F) ℓ)

/-- The block at a lane inside the array. -/
theorem fill_lane (c : Dev nD) (t : Fin cfg0.N) (d) (r : Fin 128) (j : Fin 2048) (k : Fin 100000)
    (hk : k.val = 2048 * t.val + j.val) :
    win0_0.fill (grid0.coords t) d (xblk m c t) (ix2 r j) = (m ((c : Thread nD τ).loc main_arg0) : S128x100000.Idx → F .f32) (ix2 r k) := by
  have hm : win0_0.moved (grid0.coords t) (ix2 r j) = true := by
    refine (win0_0.moved_iff _ _).mpr fun a => ?_
    match a with
    | ⟨0, _⟩ => exact (xsize_0 t).symm ▸ r.isLt
    | ⟨1, _⟩ =>
      have h := xsize_1 t
      have := j.isLt
      have := k.isLt
      show j.val < win0_0.xsize (grid0.coords t) (1 : Fin 2)
      omega
  unfold Pipeline.Window.fill
  rw [dif_pos hm]
  refine congrArg (m ((c : Thread nD τ).loc main_arg0) : S128x100000.Idx → F .f32) (funext fun a => Fin.ext ?_)
  match a with
  | ⟨0, _⟩ =>
    show 0 * 128 + 1 * r.val = r.val
    omega
  | ⟨1, _⟩ =>
    show cc0_transform_0 (grid0.coords t) 1 * 2048 + 1 * j.val = k.val
    rw [start_1, hk]
    omega

end Cert.KernelIdeal.Body
-- ==== Proof.KernelGood.lean ====
module

public import proofs.«01_k».proof.Proof.KernelBlock
public import proofs.«01_k».proof.Proof.KernelRun
public import proofs.«01_k».proof.Proof.KernelStep

/-!
The scratch buffers along the grid: after every number of blocks they hold what belongs to the columns scanned.
-/

@[expose] public section

noncomputable section

namespace Cert.KernelIdeal.Step

open Cert.KernelIdeal Cert.KernelIdeal.Gen Cert.KernelIdeal.Body Cert.KernelIdeal.Lane
open Idealize.ShloMosaic Idealize.ShloMosaic.TcCoe Idealize.ShloMosaic.ValueIdx

/-- The array of numbers a device starts with. -/
abbrev inp (m : (ℓ : Loc nD τ sig) → Buf (Elt Ideal) ℓ) (c : Dev nD) : Arr := m ((c : Thread nD τ).loc main_arg0)

/-- The step at a grid point, from the state before its block to the state after it. -/
theorem step_at (m : (ℓ : Loc nD τ sig) → Buf (Elt Ideal) ℓ) (c : Dev nD) (t : Fin cfg0.N) (d : Blk) :
    Scr.step (grid0.coords t) (win0_0.fill (grid0.coords t) d (xblk m c t))
        (state (inp m c) t.val)
      = state (inp m c) (t.val + 1) := by
  have h := step (inp m c) (grid0.coords t) (win0_0.fill (grid0.coords t) d (xblk m c t))
    fun r j k hk => fill_lane m c t d r j k (by rw [hk, coord_val])
  rw [coord_val] at h
  exact h

/-- The scratch buffers hold `state` of the array after every number of blocks. -/
theorem good (m : (ℓ : Loc nD τ sig) → Buf (Elt Ideal) ℓ) :
    Good m (fun c n s => s = state (inp m c) n)
      (fun c => state (inp m c) 49) where
  first c t d ht := by
    have h := step_at m c t d
    rw [ht, ← init] at h
    exact h
  next c t d s _ hs := by
    rw [hs]
    exact step_at m c t d
  last _ _ h := h

end Cert.KernelIdeal.Step
-- ==== Proof.RefScore.lean ====
module

public import proofs.«01_k».proof.Proof.KernelStep
public import proofs.«01_k».proof.Proof.RefRun

/-!
The reference's scores over the extended reals are the kernel's: the same random words, and the same noise from each.
-/

@[expose] public section

noncomputable section

namespace Cert.ReferenceIdeal.Line

open Cert.ReferenceIdeal Cert.ReferenceIdeal.Gen Cert.Threefry
open Cert.KernelIdeal.Step (Arr scores)
open Idealize.ShloMosaic Idealize.ShloMosaic.ValueIdx

/-- The first key word is zero, -/
theorem key_fst : keyOf (ix1 0) = 0#32 := by
  decide +kernel

/-- and the second is the seed. -/
theorem key_snd : keyOf (ix1 1) = 42#32 := by
  decide +kernel

/-- The host's right shift by less than the width. -/
theorem shr_eq {n : ℕ} (w r : BitVec n) (hr : r.toNat < n) : IntOp.shrui .host w r = w >>> r := if_pos hr

/-- The position is the element's number, -/
theorem pos_toNat (i : S128x100000.Idx) : (posOf i).toNat = (i 0).val * 100000 + (i 1).val := by
  have h0 : (i 0).val < 128 := (i 0).isLt
  have h1 : (i 1).val < 100000 := (i 1).isLt
  unfold posOf
  rw [BitVec.toNat_add, BitVec.toNat_mul, BitVec.toNat_mul, BitVec.toNat_ofNat, BitVec.toNat_ofNat, BitVec.toNat_ofNat, BitVec.toNat_ofNat,
    Nat.mod_eq_of_lt (a := (i 0).val) (by omega), Nat.mod_eq_of_lt (a := (i 1).val) (by omega)]
  omega

/-- which is its low word, -/
theorem pos_low (i : S128x100000.Idx) : (posOf i).setWidth 32 = BitVec.ofNat 32 ((i 0).val * 100000 + (i 1).val) := by
  apply BitVec.eq_of_toNat_eq
  rw [BitVec.toNat_setWidth, pos_toNat, BitVec.toNat_ofNat]

/-- the high word being zero. -/
theorem pos_high (i : S128x100000.Idx) : (IntOp.shrui .host (posOf i) 32#64).setWidth 32 = 0#32 := by
  have h0 : (i 0).val < 128 := (i 0).isLt
  have h1 : (i 1).val < 100000 := (i 1).isLt
  have hz : (posOf i >>> 32#64).toNat = 0 := by
    rw [BitVec.ushiftRight_eq', BitVec.toNat_ushiftRight, pos_toNat, Nat.shiftRight_eq_div_pow]
    exact Nat.div_eq_of_lt (lt_of_lt_of_le (show _ < 2 ^ 32 by omega) (le_of_eq rfl))
  rw [shr_eq (posOf i) 32#64 (by decide)]
  apply BitVec.eq_of_toNat_eq
  rw [BitVec.toNat_setWidth, hz]
  rfl

/-- The random word the reference draws at an element is the one the kernel draws there. -/
theorem word (i : S128x100000.Idx) : wordOf keyOf i = draw (BitVec.ofNat 32 ((i 0).val * 100000 + (i 1).val)) := by
  have e : ∀ key : IVec S2 32, wordOf key i = (fun s : BitVec 32 × BitVec 32 => s.1 ^^^ s.2)
      (groups (key (ix1 0)) (key (ix1 1)) (key (ix1 0) ^^^ key (ix1 1) ^^^ 466688986#32)
        ((IntOp.shrui .host (posOf i) 32#64).setWidth 32 + key (ix1 0), (posOf i).setWidth 32 + key (ix1 1))) := fun key => by
    have e0 : shapeCast S_ (extractStridedSlice S1 ![0] key slices_S2_S1_0) shapeCasts_S1_S_ (fun d => d.elim0) = key (ix1 0) := by
      refine (shapeCast_apply _ _ _ (ix1 0) rfl).trans (congrArg key ?_)
      funext a
      have ha : a = 0 := Subsingleton.elim _ _
      subst ha
      rfl
    have e1 : shapeCast S_ (extractStridedSlice S1 ![1] key slices_S2_S1_1) shapeCasts_S1_S_ (fun d => d.elim0) = key (ix1 1) := by
      refine (shapeCast_apply _ _ _ (ix1 0) rfl).trans (congrArg key ?_)
      funext a
      have ha : a = 0 := Subsingleton.elim _ _
      subst ha
      rfl
    unfold wordOf
    rw [e0, e1]
  rw [e, key_fst, key_snd, pos_low, pos_high]
  rfl

/-- The reference's noisy score of one entry is the kernel's. -/
theorem scoreAt_eq (x : EReal) (w : BitVec 32) : scoreAt (F := Ideal) x w = Score.score x w := by
  have hr : IntOp.ori (IntOp.shrui .host w 9#32) 1065353216#32 = (w >>> 9#32 ||| 1065353216#32) :=
    congrArg (· ||| 1065353216#32) (shr_eq w 9#32 (by decide))
  have e : ∀ z : EReal, z = Ideal.ofBits .f32 0x00000000#32 → scoreAt (F := Ideal) x w
      = -Ideal.log (-Ideal.log (max Score.tiny (max z ((Ideal.ofBits .f32 (IntOp.ori (IntOp.shrui .host w 9#32) 1065353216#32) - Score.one) * (Score.one - z) + z) * Score.one
        + Score.tiny))) + Ideal.log x := fun z hz => by subst hz; rfl
  rw [e 0 Ideal.ofBits_zero_f32.symm, hr, add_comm]
  exact congrArg (fun u => Ideal.log x + -Ideal.log (-Ideal.log u)) (Score.unif_eq w)

/-- The reference's scores are the kernel's. -/
theorem scoreOf_eq (X : Arr) : scoreOf (F := Ideal) X = scores X :=
  funext fun i => (scoreAt_eq (X i) _).trans (congrArg (Score.score (X i)) (word i))

end Cert.ReferenceIdeal.Line
-- ==== Proof.Totals.lean ====
module

public import proofs.«01_k».proof.Proof.KernelStep
public import proofs.«01_k».proof.Proof.RefRun
public import Idealize.ShloMosaic.Lib.Pointwise

/-!
The two scalars, the entropy and the number of matches: what the kernel's last block makes of the scratch buffers, and
what the reference makes of the whole arrays, as the same sums.
-/

@[expose] public section

noncomputable section

namespace Cert.Compare

open Cert.KernelIdeal.Lane (Col column_row)
open Cert.KernelIdeal.Step (Arr row row_of_lt)
open Idealize.ShloMosaic hiding ix1 ix2 ix3
open Idealize.ShloMosaic.ValueIdx

/-- The indices by coordinates are the same in both spellings. -/
theorem ix2_same {n0 n1 : ℕ} (a : Fin n0) (b : Fin n1) : Idealize.ShloMosaic.ix2 a b = ix2 a b := ValueIdx.eq_ix2 _

/-- The same for three coordinates. -/
theorem ix3_same {n0 n1 n2 : ℕ} (a : Fin n0) (b : Fin n1) (c : Fin n2) : Idealize.ShloMosaic.ix3 a b c = ix3 a b c := ValueIdx.eq_ix3 _

section kernel

open Cert.KernelIdeal Cert.KernelIdeal.Gen

/-- The kernel's entropy: the negated sum over the rows. -/
theorem entropy_kernel (G : Col) (j : S1x1.Idx) : k0_pay5 (F := Ideal) G j = -∑ r : Fin 128, G (ix2 r 0) := by
  have hs : ∀ r : Fin 128, shapeCast S1x128x1 G shapeCasts_S128x1_S1x128x1 (ix3 0 r 0) = G (ix2 r 0) := fun r =>
    shapeCast_apply _ _ _ _ (by rw [Shape.rowMajor_val_three, Shape.rowMajor_val_two]; simp)
  have hx : ∀ v : FVec Ideal S1 .f32, extractAt ![0, 0, 0] (shapeCast S1x1x1 v shapeCasts_S1_S1x1x1) inpos_S1x1x1_p0_0_0 = v (ix1 0) := fun v =>
    shapeCast_apply _ _ _ _ (by rw [Shape.rowMajor_val_three, Shape.rowMajor_val_one]; rfl)
  have hr : multiReduction (F := Ideal) .add [1, 2] S1 (shapeCast S1x128x1 G shapeCasts_S128x1_S1x128x1) 0x00000000#32 reduces_S1x128x1_S1 (.inl rfl) rfl (ix1 0)
      = ∑ r : Fin 128, G (ix2 r 0) := by
    refine (Ideal.reduceAdd_r3_a12 reduces_S1x128x1_S1 _ (ix1 0)).trans (Finset.sum_congr rfl fun r _ => ?_)
    rw [Fin.sum_univ_one, ix3_same]
    exact hs r
  have e : k0_pay5 (F := Ideal) G j = Ideal.ofBits .f32 0x00000000#32 - extractAt ![0, 0, 0] (shapeCast S1x1x1
      (multiReduction (F := Ideal) .add [1, 2] S1 (shapeCast S1x128x1 G shapeCasts_S128x1_S1x128x1) 0x00000000#32 reduces_S1x128x1_S1 (.inl rfl) rfl)
      shapeCasts_S1_S1x1x1) inpos_S1x1x1_p0_0_0 := rfl
  rw [e, hx, hr, Ideal.ofBits_zero_f32, sub_eq_add_neg, zero_add]

/-- One cell of the table of matches: whether two columns are the same. -/
def cell (p q : BitVec 32) : BitVec 32 := (IntOp.cmpi .eq p q).setWidth 32

/-- The kernel's matches: how many of the pairs of rows have the first row's greatest weight at the second's draw. -/
theorem matches_kernel (a b : IVec S128x1 32) (j : S1x1.Idx) : k0_pay6 (F := Ideal) a b j
    = (Finset.univ : Finset (Fin 128 × Fin 128)).fold IntOp.addi 0#32 fun k => cell (b (ix2 k.1 0)) (a (ix2 k.2 0)) := by
  have hx : ∀ v : IVec S1 32, extractAt ![0, 0, 0] (shapeCast S1x1x1 v shapeCasts_S1_S1x1x1) inpos_S1x1x1_p0_0_0 = v (ix1 0) := fun v =>
    shapeCast_apply _ _ _ _ (by rw [Shape.rowMajor_val_three, Shape.rowMajor_val_one]; rfl)
  have hs : ∀ (v : IVec S128x128 32) (p q : Fin 128), shapeCast S1x128x128 v shapeCasts_S128x128_S1x128x128 (ix3 0 p q) = v (ix2 p q) := fun v p q =>
    shapeCast_apply _ _ _ _ (by rw [Shape.rowMajor_val_three, Shape.rowMajor_val_two]; simp)
  have hc : ∀ p q : Fin 128, broadcastTo S128x128 b broadcasts_S128x1_S128x128 (ix2 p q) = b (ix2 p 0) := fun p q => by
    refine broadcastTo_apply b _ _ _ fun a => ?_
    match a with
    | ⟨0, _⟩ => rfl
    | ⟨1, _⟩ => rfl
  have hl : ∀ p q : Fin 128, broadcastTo S128x128 (shapeCast S1x128 a shapeCasts_S128x1_S1x128) broadcasts_S1x128_S128x128 (ix2 p q)
      = a (ix2 q 0) := fun p q => by
    refine (broadcastTo_apply (shapeCast S1x128 a shapeCasts_S128x1_S1x128) _ _ (ix2 0 q) fun a => ?_).trans ?_
    · match a with
      | ⟨0, _⟩ => rfl
      | ⟨1, _⟩ => rfl
    · exact shapeCast_apply _ _ _ _ (by rw [Shape.rowMajor_val_two, Shape.rowMajor_val_two]; simp)
  have hv : ∀ (u v : IVec S128x128 32) (i : S128x128.Idx), extui 32 (cmpi .eq u v) natLt_1_32 i = cell (u i) (v i) := fun _ _ _ => rfl
  have ht : ∀ W : IVec S128x128 32, broadcast S1x1 (extractAt ![0, 0, 0] (shapeCast S1x1x1
      (multiReductionI .add [1, 2] S1 (shapeCast S1x128x128 W shapeCasts_S128x128_S1x128x128) 0#32 reduces_S1x128x128_S1 rfl)
      shapeCasts_S1_S1x1x1) inpos_S1x1x1_p0_0_0) j
      = (Finset.univ : Finset (Fin 128 × Fin 128)).fold IntOp.addi 0#32 fun k => W (ix2 k.1 k.2) := fun W => by
    have hb : ∀ x : BitVec 32, broadcast S1x1 x j = x := fun _ => rfl
    rw [hb, hx]
    refine (multiReductionI_eq_fold .add _ _ reduces_S1x128x128_S1 rfl (ix1 0)).trans ?_
    refine (reduces_S1x128x128_S1.fold_fiber_r3_a12 (ix1 0) _ _ _).trans ?_
    exact congrArg (Finset.univ.fold IntOp.addi 0#32) (funext fun k => (congrArg _ (ix3_same _ _ _)).trans (hs W k.1 k.2))
  unfold k0_pay6
  dsimp only
  rw [ht]
  exact congrArg (Finset.univ.fold IntOp.addi 0#32) (funext fun k => (hv _ _ _).trans (congrArg₂ cell (hc k.1 k.2) (hl k.1 k.2)))

end kernel

section reference

open Cert.ReferenceIdeal Cert.ReferenceIdeal.Gen

/-- The reference's entropy: the negated sum over the whole array. -/
theorem entropy_reference (X : S128x100000.Idx → EReal) (j : S_.Idx) :
    Host.negf (F := Ideal) (Host.reduceAdd (F := Ideal) (φ := .f32) (mulf (F := Ideal) (φ := .f32) X (Host.log (F := Ideal) X)) (constant S_ .f32 0x00000000#32) reducesTo_S128x100000_S_d0_1 h_S_) j
      = -∑ r : Fin 128, ∑ k ∈ Finset.range 100000, row X r k * Ideal.log (row X r k) := by
  have e : Host.negf (F := Ideal) (Host.reduceAdd (F := Ideal) (φ := .f32) (mulf (F := Ideal) (φ := .f32) X (Host.log (F := Ideal) X)) (constant S_ .f32 0x00000000#32) reducesTo_S128x100000_S_d0_1 h_S_) j
      = -Ideal.hostReduceAdd reducesTo_S128x100000_S_d0_1 (fun i => X i * Ideal.log (X i)) (Ideal.ofBits .f32 0x00000000#32) j := rfl
  rw [e, Ideal.hostReduceAdd_r2_a01, Ideal.ofBits_zero_f32, zero_add]
  refine congrArg Neg.neg (Finset.sum_congr rfl fun r _ => ?_)
  rw [Finset.sum_range]
  exact Finset.sum_congr rfl fun k _ => by rw [row_of_lt X r k.isLt, ix2_same]

/-- The reference's matches. -/
theorem matches_reference (A D : IVec S128 32) (j : S_.Idx) : Host.reduce IntOp.addi
    (extui 32 (cmpi .eq
      (broadcastInDim S128x128 ![0, 1] bcast_S128x1_S128x128_0_1 (shapeCast S128x1 A shapeCasts_S128_S128x1))
      (broadcastInDim S128x128 ![0, 1] bcast_S1x128_S128x128_0_1 (broadcastInDim S1x128 ![1] bcast_S128_S1x128_1 D))) natLt_1_32)
    (constantI S_ 32 0#32) reducesTo_S128x128_S_d0_1 h_S_ j
    = (Finset.univ : Finset (Fin 128 × Fin 128)).fold IntOp.addi 0#32 fun k => cell (A (ix1 k.1)) (D (ix1 k.2)) := by
  have hc : ∀ (u : IVec S128x1 32) (p q : Fin 128), broadcastInDim S128x128 ![0, 1] bcast_S128x1_S128x128_0_1 u (ix2 p q) = u (ix2 p 0) :=
    fun u p q => congrArg u (funext fun a => by
      match a with
      | ⟨0, _⟩ => rfl
      | ⟨1, _⟩ => rfl)
  have hl : ∀ (p q : Fin 128), broadcastInDim S128x128 ![0, 1] bcast_S1x128_S128x128_0_1 (broadcastInDim S1x128 ![1] bcast_S128_S1x128_1 D) (ix2 p q)
      = D (ix1 q) :=
    fun p q => congrArg D (funext fun a => by
      match a with
      | ⟨0, _⟩ => rfl)
  have hv : ∀ (u v : IVec S128x128 32) (i : S128x128.Idx), extui 32 (cmpi .eq u v) natLt_1_32 i = cell (u i) (v i) := fun _ _ _ => rfl
  refine (Host.reduce_eq_fold IntOp.addi _ _ reducesTo_S128x128_S_d0_1 h_S_ j).trans ?_
  refine (reducesTo_S128x128_S_d0_1.fold_fiber_r2_a01 j _ _ _).trans ?_
  refine congrArg (Finset.univ.fold IntOp.addi 0#32) (funext fun k => ?_)
  rw [ix2_same]
  exact (hv _ _ _).trans (congrArg₂ cell ((hc _ k.1 k.2).trans (column_row A k.1)) (hl k.1 k.2))

end reference

end Cert.Compare
-- ==== Proof.Compare.lean ====
module

public import proofs.«01_k».proof.Proof.ArgMax
public import proofs.«01_k».proof.Proof.Chosen
public import proofs.«01_k».proof.Proof.KernelGood
public import proofs.«01_k».proof.Proof.RefScore
public import proofs.«01_k».proof.Proof.Totals
public import proofs.«01_k».proof.Proof.Gen.Pre_positive

/-!
The kernel's results, read off its scratch buffers after the last block, are the reference's, for an array of positive
numbers.
-/

@[expose] public section

noncomputable section

namespace Cert.Compare

open Cert.ReferenceIdeal Cert.ReferenceIdeal.Gen Cert.ReferenceIdeal.Line Cert.ReferenceIdeal.ArgMax Cert.Best
open Cert.KernelIdeal.Step (Arr row row_of_lt scores state top cols)
open Cert.KernelIdeal.Body (Scr)
open Cert.KernelIdeal.Lane (cmp_ogt)
open Idealize.ShloMosaic hiding ix1 ix2 ix3
open Idealize.ShloMosaic.ValueIdx

/-- The precondition's reading: every number is positive. -/
theorem positive_of_pre (X : Arr) (g : IVec S128 32) (h : Cert.Pre_positive.fn (F := Ideal) X g = fun _ => 1#1) (i : S128x100000.Idx) : 0 < X i := by
  haveI : Subsingleton Cert.Pre_positive.S_.Idx := ⟨fun a b => funext fun d => d.elim0⟩
  have e := congrFun h fun d => d.elim0
  have hi : Ideal.cmp .ogt (X i) (Ideal.ofBits .f32 0x00000000#32) = 1#1 := Host.reduce_andi_all _ _ _ _ _ e i
  rw [cmp_ogt, Ideal.ofBits_zero_f32] at hi
  by_contra hn
  rw [if_neg hn] at hi
  exact absurd hi (by decide)

/-- The whole row is scanned. -/
theorem cols_all : cols 49 = 100000 := rfl

/-- A column of words as a list of them. -/
theorem list_row {α : Type} (v : S128x1.Idx → α) (h : S128x1.ShapeCasts S128) (r : Fin 128) : shapeCast S128 v h (ix1 r) = v (ix2 r 0) :=
  shapeCast_apply _ _ _ _ (by rw [Shape.rowMajor_val_two, Shape.rowMajor_val_one]; simp)

/-- Two lists are equal if they are row by row. -/
theorem list_ext {α : Type} {u v : S128.Idx → α} (h : ∀ r : Fin 128, u (ix1 r) = v (ix1 r)) : u = v := by
  funext i
  rw [ValueIdx.eq_ix1 i]
  exact h (i 0)

/-- A one-cell array as a scalar. -/
theorem scalar {α : Type} (h : Cert.KernelIdeal.S1x1.ShapeCasts S_) (j : S_.Idx) :
    ∃ k, ∀ v : Cert.KernelIdeal.S1x1.Idx → α, shapeCast S_ v h j = v k := ⟨_, fun _ => rfl⟩

/-- The kernel's logarithm of a share. -/
theorem pay4_row (g s : Cert.KernelIdeal.Lane.Col) (r : Fin 128) :
    Cert.KernelIdeal.Gen.k0_pay4 (F := Ideal) g s (ix2 r 0) = g (ix2 r 0) - Ideal.log (s (ix2 r 0)) := rfl

/-- The logarithm kept beside the draw, -/
theorem gsl_row (X : Arr) (n : ℕ) (r : Fin 128) :
    (state X n).gsl (ix2 r 0) = (top (scores X) n r).elim 0 fun k => Ideal.log (row X r k) := rfl

/-- the weights' sum, -/
theorem rs_row (X : Arr) (n : ℕ) (r : Fin 128) : (state X n).rs (ix2 r 0) = ∑ k ∈ Finset.range (cols n), row X r k := rfl

/-- and the sum of `x · log x`, at a row. -/
theorem ea_row (X : Arr) (n : ℕ) (r : Fin 128) :
    (state X n).ea (ix2 r 0) = ∑ k ∈ Finset.range (cols n), row X r k * Ideal.log (row X r k) := rfl

section

variable (X : Arr) (hX : ∀ i, 0 < X i)
include hX

/-- No weight is the least extended real, -/
theorem bot_lt (i : S128x100000.Idx) : ⊥ < X i := lt_trans (EReal.bot_lt_coe 0) (hX i)

/-- and no score is. -/
theorem bot_lt_scores (i : S128x100000.Idx) : ⊥ < scores X i := Score.bot_lt_score (hX i) _

/-- The kernel's draw of a row is the reference's, the first column of the greatest score. -/
theorem drawn_row (r : Fin 128) : ∃ i, i < 100000 ∧ top (scores X) 49 r = some i
    ∧ argmaxOf (F := Ideal) (scoreOf X) (ix1 r) = BitVec.ofNat 32 i := by
  rw [scoreOf_eq]
  exact argmaxOf_row (scores X) (bot_lt_scores X hX) r

/-- The column kept as the draw. -/
theorem gsi_row (r : Fin 128) : (state X 49).gsi (ix2 r 0) = argmaxOf (F := Ideal) (scoreOf X) (ix1 r) := by
  obtain ⟨i, _, ht, ha⟩ := drawn_row X hX r
  have e : (state X 49).gsi (ix2 r 0) = (top (scores X) 49 r).elim 0#32 (BitVec.ofNat 32) := rfl
  rw [e, ht, ha]
  rfl

/-- The column kept as the greatest weight's. -/
theorem gxi_row (r : Fin 128) : (state X 49).gxi (ix2 r 0) = argmaxOf (F := Ideal) X (ix1 r) := by
  obtain ⟨i, _, ht, ha⟩ := argmaxOf_row X (bot_lt X hX) r
  have e : (state X 49).gxi (ix2 r 0) = (best (row X r) 100000).elim 0#32 (BitVec.ofNat 32) := rfl
  rw [e, ht, ha]
  rfl

/-- The draws. -/
theorem drawn_eq (h : S128x1.ShapeCasts S128) : shapeCast S128 (state X 49).gsi h = argmaxOf (F := Ideal) (scoreOf X) :=
  list_ext fun r => (list_row _ h r).trans (gsi_row X hX r)

/-- The matches. -/
theorem matched_eq (h : Cert.KernelIdeal.S1x1.ShapeCasts S_) : shapeCast S_ (state X 49).mt h = Host.reduce IntOp.addi
    (extui 32 (cmpi .eq
      (broadcastInDim S128x128 ![0, 1] bcast_S128x1_S128x128_0_1 (shapeCast S128x1 (argmaxOf (F := Ideal) X) shapeCasts_S128_S128x1))
      (broadcastInDim S128x128 ![0, 1] bcast_S1x128_S128x128_0_1 (broadcastInDim S1x128 ![1] bcast_S128_S1x128_1 (argmaxOf (F := Ideal) (scoreOf X))))) natLt_1_32)
    (constantI S_ 32 0#32) reducesTo_S128x128_S_d0_1 h_S_ := by
  funext j
  obtain ⟨k, hk⟩ := scalar h j
  rw [matches_reference, hk]
  unfold Scr.mt
  rw [matches_kernel]
  exact congrArg (Finset.univ.fold IntOp.addi 0#32) (funext fun k => congrArg₂ cell (gxi_row X hX k.1) (gsi_row X hX k.2))

omit hX in
/-- The entropy. -/
theorem entropy_eq (h : Cert.KernelIdeal.S1x1.ShapeCasts S_) : shapeCast S_ (state X 49).en h
    = Host.negf (F := Ideal) (Host.reduceAdd (F := Ideal) (φ := .f32) (mulf (F := Ideal) (φ := .f32) X (Host.log (F := Ideal) X)) (constant S_ .f32 0x00000000#32) reducesTo_S128x100000_S_d0_1 h_S_) := by
  funext j
  obtain ⟨k, hk⟩ := scalar h j
  rw [entropy_reference, hk]
  unfold Scr.en
  rw [entropy_kernel]
  exact congrArg Neg.neg (Finset.sum_congr rfl fun r _ => (ea_row X 49 r).trans (by rw [cols_all]))

/-- The logarithm of the chosen entry's share of its row. -/
theorem logq_eq (h : S128x1.ShapeCasts S128) : shapeCast S128 (state X 49).lg h = Host.log (F := Ideal) (φ := .f32) (shapeCast S128
    (takeOf (Host.divf X (broadcastInDim S128x100000 ![0, 1] bcast_S128x1_S128x100000_0_1
        (broadcastInDim S128x1 ![0] bcast_S128_S128x1_0 (Host.reduceAdd (F := Ideal) (φ := .f32) X (constant S_ .f32 0x00000000#32) reducesTo_S128x100000_S128_d1 h_S_))))
      (broadcastInDim S128x1 ![0] bcast_S128_S128x1_0 (argmaxOf (F := Ideal) (scoreOf X)))) shapeCasts_S128x1_S128) := by
  refine list_ext fun r => ?_
  have hb : ∀ (A : IVec S128 32) (r : Fin 128), broadcastInDim S128x1 ![0] bcast_S128_S128x1_0 A (ix2 r 0) = A (ix1 r) := fun A r =>
    congrArg A (funext fun a => by
      match a with
      | ⟨0, _⟩ => rfl)
  have hl : ∀ T : FVec Ideal S128 .f32, Host.log (F := Ideal) (φ := .f32) T (ix1 r) = Ideal.log (T (ix1 r)) := fun _ => rfl
  have hI : ∀ r : Fin 128, ∃ i : Fin 100000, broadcastInDim S128x1 ![0] bcast_S128_S128x1_0 (argmaxOf (F := Ideal) (scoreOf X)) (ix2 r 0)
      = BitVec.ofNat 32 i.val := fun r => by
    obtain ⟨i, hi, _, ha⟩ := drawn_row X hX r
    exact ⟨⟨i, hi⟩, (hb _ r).trans ha⟩
  obtain ⟨i, hi, ht, ha⟩ := drawn_row X hX r
  have e : (state X 49).lg (ix2 r 0) = (top (scores X) 49 r).elim 0 (fun k => Ideal.log (row X r k))
      - Ideal.log (∑ k ∈ Finset.range (cols 49), row X r k) := by
    unfold Scr.lg
    rw [pay4_row, gsl_row, rs_row]
  rw [list_row, e, ht, cols_all, hl, list_row, take_lane _ _ hI r ⟨i, hi⟩ ((hb _ r).trans ha), quotient_lane,
    log_div (hX _) (entry_le_sum X hX r ⟨i, hi⟩), ← row_of_lt X r hi]
  rfl

end

end Cert.Compare
-- ==== Proof.KernelFrame.lean ====
module

public import proofs.«01_k».proof.Proof.KernelRun

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA scopedRest)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point, from any contents: it runs, and leaves `x`'s buffer as it was and some contents in the others. -/
theorem body_any (c : Dev nD) (i : grid0.Coords) (m : Memref sig .tc .vmem S128x2048 .f32) (hm : m.IsWhole)
    (B : Buf (Elt F) (m.view.loc (c : Thread nD τ)))
    (O1 : IVec S128x1 32) (O2 : FVec F S128x1 .f32) (O3 : FVec F S1x1 .f32) (O4 : IVec S1x1 32) (s : Scr F)
    (K : PUnit → sProp 𝕄) :
    iprop(held c m B O1 O2 O3 O4 s ∗ (∀ O1' O2' O3' O4', ∀ s' : Scr F, held c m B O1' O2' O3' O4' s' -∗ K ⟨⟩))
      ⊢ wp frame (wpE (defs₀ (F := F)) Variants.none c none) Set.univ (prog i m hm) K := by
  by_cases h1 : (i 0).val = 0
  · iintro ⟨H, Hk⟩
    iapply (body_first c i m hm h1 B _ rfl O1 O2 O3 O4 s K)
    isplitl [H]; · iexact H
    iintro H; iapply Hk $$ [H]; iexact H
  by_cases h2 : (i 0).val = 48
  · iintro ⟨H, Hk⟩
    iapply (body_last c i m hm h2 B _ rfl O1 O2 O3 O4 s K)
    isplitl [H]; · iexact H
    iintro H; iapply Hk $$ [H]; iexact H
  · iintro ⟨H, Hk⟩
    iapply (body_mid c i m hm h1 h2 B _ rfl O1 O2 O3 O4 s K)
    isplitl [H]; · iexact H
    iintro H; iapply Hk $$ [H]; iexact H

/-- The proof data of the frame: the class's own invariant throughout, nothing said of the results. -/
def fdats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (xblk m c t)
    | ⟨1, _⟩ => fun _ => 0#32
    | ⟨2, _⟩ => fun _ => Scalar.ofBits .f32 0#32
    | ⟨3, _⟩ => fun _ => Scalar.ofBits .f32 0#32
    | ⟨4, _⟩ => fun _ => 0#32
  Φ _ := ΦA spec0 c
  q _ := fullShare
  owed _ := 0

/-- The windows whose contents the frame forgets: the results'. -/
def fgt : Fin 5 → Bool := fun | 0 => false | _ => true

/-- Before a point's body the input's staging buffer holds the point's block. -/
theorem fbefore_0 (c : Dev nD) (t : Fin cfg0.N) (d) :
    (fdats m 0 c).before (0 : Fin 5) t d = win0_0.fill (grid0.coords t) d (xblk m c t) := by
  unfold Dat.before; rw [if_pos (fetch0_0 t)]; rfl

/-- Each point's body runs, whatever the scratch buffers hold. -/
theorem fbody_obligation (c : Dev nD) :
    BodyObligationLoose (fdats m 0 c) (defs₀ (F := F)) Variants.none () Set.univ fgt := fun t => by
  rw [bigSep_W0, bigSep_W0]
  have hrow : defs₀ (F := F) .tc cfg0.body (cfg0.bodyArgs t (cfg0.slots t))
      = prog (grid0.coords t) (stage0_0 (cfg0.slots t 0)) (hstage0_0 (cfg0.slots t 0)) := by
    unfold defs₀; rw [Defs.onTc_tc]; exact body_slots (F := F) _ _ _ _ _ _
  rw [hrow, show fgt 0 = false from rfl, show fgt 1 = true from rfl, show fgt 2 = true from rfl, show fgt 3 = true from rfl,
    show fgt 4 = true from rfl]
  simp only
  rw [show (fdats m 0 c).owesAt () t.succ = (fdats m 0 c).owesAt () t.castSucc from rfl,
    show (fdats m 0 c).Φ t.castSucc = ΦA spec0 c from rfl, show (fdats m 0 c).Φ t.succ = ΦA spec0 c from rfl]
  have hcut : win0_0.cut (grid0.coords t) (win0_0.fill (grid0.coords t) (fun _ => (Scalar.ofBits .f32 0#32 : F .f32)) (xblk m c t))
      = xblk m c t := win0_0.cut_fill _ _ _
  have hcut' : ∀ d, (win0 0).fill (grid0.coords t) d ((win0 0).cut (grid0.coords t) ((fdats m 0 c).after 0 t))
      = win0_0.fill (grid0.coords t) d (xblk m c t) := fun d => congrArg (win0_0.fill (grid0.coords t) d) hcut
  generalize hb0 : (fdats m 0 c).before 0 t = b0
  generalize (fdats m 0 c).owesAt () t.castSucc = ow
  rw [show cfg0.slots t 1 = (0 : Fin 1) from Subsingleton.elim _ _, show cfg0.slots t 2 = (0 : Fin 1) from Subsingleton.elim _ _,
    show cfg0.slots t 3 = (0 : Fin 1) from Subsingleton.elim _ _, show cfg0.slots t 4 = (0 : Fin 1) from Subsingleton.elim _ _]
  iintro ⟨HΦ, Ho, ⟨%d0, H0⟩, ⟨%d1, H1⟩, ⟨%d2, H2⟩, ⟨%d3, H3⟩, ⟨%d4, H4⟩⟩
  rw [show b0 d0 = win0_0.fill (grid0.coords t) d0 (xblk m c t) from by rw [← hb0]; exact fbefore_0 m c t d0]
  ihave ⟨%B, %hB, H0⟩ := owns_in c (cfg0.slots t 0) _ $$ H0
  ihave H1 := whole_in c cc0_stg1_0 _ $$ H1
  ihave H2 := whole_in c cc0_stg2_0 _ $$ H2
  ihave H3 := whole_in c cc0_stg3_0 _ $$ H3
  ihave H4 := whole_in c cc0_stg4_0 _ $$ H4
  ihave ⟨⟨%s, S0, S1, S2, S3, S4, S5, S6⟩, Hr⟩ := (ΦA_eq c).1 $$ HΦ
  iapply (body_any c (grid0.coords t) (stage0_0 (cfg0.slots t 0)) (hstage0_0 (cfg0.slots t 0)) B _ _ _ _ s _)
  isplitl [H0 H1 H2 H3 H4 S0 S1 S2 S3 S4 S5 S6]
  · isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    isplitl [S4]; · iexact S4
    isplitl [S5]; · iexact S5
    iexact S6
  iintro %o1 %o2 %o3 %o4 %s' ⟨H0, H1, H2, H3, H4, S0, S1, S2, S3, S4, S5, S6⟩
  isplitl [S0 S1 S2 S3 S4 S5 S6 Hr]
  · iapply (ΦA_eq c).2
    isplitr [Hr]
    · iexists s'
      isplitl [S0]; · iexact S0
      isplitl [S1]; · iexact S1
      isplitl [S2]; · iexact S2
      isplitl [S3]; · iexact S3
      isplitl [S4]; · iexact S4
      isplitl [S5]; · iexact S5
      iexact S6
    · iexact Hr
  isplitl [Ho]; · iexact Ho
  isplitl [H0]
  · iexists d0
    rw [hcut']
    iapply (owns_out c (cfg0.slots t 0) _ B hB)
    iexact H0
  isplitl [H1]; · iexists o1; iapply (whole_out c cc0_stg1_0 _); iexact H1
  isplitl [H2]; · iexists o2; iapply (whole_out c cc0_stg2_0 _); iexact H2
  isplitl [H3]; · iexists o3; iapply (whole_out c cc0_stg3_0 _); iexact H3
  iexists o4; iapply (whole_out c cc0_stg4_0 _); iexact H4

/-- The buffers the lines after the kernel write. -/
def written : Finset (Ref sig .tc) := {main_v1, main_v2, main_v3, main_v4, main_c}

set_option backward.isDefEq.respectTransparency.types false in
/-- The kernel, from any memory: every device's arguments end as launched and every semaphore at zero. -/
theorem frame_run : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine Pipeline.θ_run_frame_around_T_forget cfgs (fdats m) 0 launch0 (defs₀ (F := F)) Variants.none fgt written m ρ main
    (fun c => fbody_obligation m c) (fun c => (fdats m 0 c).share_full fun _ => rfl) (fun _ _ => rfl) (V0 m) [hostOps1]
    sfx_sub sfx_fresh sfx_keeps ?_ (hmain m Variants.none) (fun _ _ => rfl) (fun c _ => rfl) _ ?_
  · intro ops hops op hop b hb
    simp only [List.mem_cons, List.mem_nil_iff, or_false] at hops
    subst hops
    simp only [hostOps1, List.mem_cons, List.mem_nil_iff, or_false] at hop
    rcases hop with rfl | rfl | rfl | rfl | rfl
    all_goals
      simp only [StableHlo.nullary_writes, StableHlo.reshape_writes, Finset.mem_singleton] at hb
      rw [Proc.devRef_injective _ hb]
      decide
  · rintro r ⟨h, hsem⟩
    refine ⟨fun c => ⟨?_, ?_⟩, hsem⟩
    · have h0 := (h c).1 0
      have e := Pipeline.RDat.ArrAt_in ((fdats m 0 c).toRForget fgt) (0 : Fin 5) rfl cfg0.N
      exact cast (congrFun e _) h0
    · exact (h c).2 main_arg1 (Finset.mem_sdiff.2 ⟨Pipeline.mem_restRefs_of main_arg1 (by decide) (by decide), by decide⟩)

end Cert.KernelIdeal.Body
-- ==== Proof.KernelSame.lean ====
module

public import proofs.«01_k».proof.Defs
public import proofs.«01_k».proof.Proof.KernelFrame
public import proofs.«01_k».proof.Proof.Gen.Kernel

@[expose] public section

set_option maxRecDepth 16384

noncomputable section

namespace Cert.Kernel.Same

open Idealize.ShloMosaic Idealize.ShloMosaic.TcCoe

/-- The kernel as printed and as printed for the reals are one text: their body tables agree, -/
theorem bodies_same : Cert.Kernel.defs₀ (F := Bits) = Cert.KernelIdeal.defs₀ := by
  unfold Cert.Kernel.defs₀ Cert.KernelIdeal.defs₀
  refine congrArg (Defs.onTc (Λ := Cert.Kernel.Λ₀)) (funext fun l => funext fun a => ?_)
  obtain ⟨n, h⟩ := l
  cases n with
  | zero => rfl
  | succ n => exact absurd h (Nat.not_lt.2 (Nat.le_add_left _ _))

/-- and with the pallas_call's region and pipeline added they agree too. -/
theorem tables_same : Cert.Kernel.defs (F := Bits) = Cert.KernelIdeal.defs (F := Bits) := by
  unfold Cert.Kernel.defs Cert.KernelIdeal.defs
  rw [bodies_same]; rfl

/-- The kernel on machine words leaves its arguments as launched and every semaphore at zero. -/
theorem frame : Cert.quiescent_Kernel (hKernel := Cert.Kernel.Gen.facts) := fun m g _ => by
  rw [tables_same]; exact Cert.KernelIdeal.Body.frame_run (F := Bits) m g

end Cert.Kernel.Same
-- ==== Proof.lean ====
module

public import proofs.«01_k».proof.Defs
public import proofs.«01_k».proof.Proof.Compare
public import proofs.«01_k».proof.Proof.KernelFrame
public import proofs.«01_k».proof.Proof.KernelSame

/-!
The certificate's claims, put together: the three frames, the idealization, and the equality of the kernel's results
with the reference's over the extended reals.
-/

@[expose] public section

noncomputable section

namespace Cert.Proof

open Idealize.ShloMosaic Idealize.SL.Sem Cert.Compare

/-- The idealized kernel's frame under the precondition. -/
theorem kernel_frame : Cert.quiescent_KernelIdeal_pre_positive (hKernelIdeal := Cert.KernelIdeal.Gen.facts) (hPre_positive := Cert.Pre_positive.Gen.facts) :=
  fun m g _ => Cert.KernelIdeal.Body.frame_run m g

/-- The reference's frame under the precondition. -/
theorem reference_frame : Cert.quiescent_ReferenceIdeal_pre_positive (hReferenceIdeal := Cert.ReferenceIdeal.Gen.facts) (hPre_positive := Cert.Pre_positive.Gen.facts) :=
  fun m g _ => Cert.ReferenceIdeal.Line.frame m g trivial

/-- The kernel and the reference end with equal results, for positive numbers. -/
theorem algebraic : Cert.algebraic_KernelIdeal_ReferenceIdeal_pre_positive (hKernelIdeal := Cert.KernelIdeal.Gen.facts)
    (hReferenceIdeal := Cert.ReferenceIdeal.Gen.facts) (hPre_positive := Cert.Pre_positive.Gen.facts) := by
  intro m g m' g' hpre hm
  have hX : ∀ (c : Dev Cert.KernelIdeal.nD) i, 0 < Cert.KernelIdeal.Step.inp m c i := fun c => positive_of_pre _ _ (hpre c)
  have hK := Cert.KernelIdeal.Body.run m g _ _ (Cert.KernelIdeal.Step.good m)
  have hR := Cert.ReferenceIdeal.Line.run (F := Ideal) m' g'
  let S := fun c => Cert.KernelIdeal.Step.state (Cert.KernelIdeal.Step.inp m c) 49
  refine ⟨fun c => m ((c.tc : Thread Cert.KernelIdeal.nD Cert.KernelIdeal.τ).loc Cert.KernelIdeal.main_arg0),
    fun c => shapeCast Cert.KernelIdeal.S128 (S c).gsi Cert.KernelIdeal.Gen.shapeCasts_S128x1_S128,
    fun c => shapeCast Cert.KernelIdeal.S_ (S c).en Cert.KernelIdeal.Gen.shapeCasts_S1x1_S_,
    fun c => shapeCast Cert.KernelIdeal.S128 (S c).lg Cert.KernelIdeal.Gen.shapeCasts_S128x1_S128,
    fun c => m ((c.tc : Thread Cert.KernelIdeal.nD Cert.KernelIdeal.τ).loc Cert.KernelIdeal.main_arg1),
    fun c => shapeCast Cert.KernelIdeal.S_ (S c).mt Cert.KernelIdeal.Gen.shapeCasts_S1x1_S_,
    fun _ => constantI Cert.KernelIdeal.S_ 32 128#32,
    (θ_run _ _ _).mono (fun r h c => ?_) hK, (θ_run _ _ _).mono (fun r h c => ?_) hR⟩
  · obtain ⟨a0, a1, e1, e2, e3, e4, e5⟩ := h.1 c
    exact ⟨a0, e1, e3, e2, a1, e4, e5, a0, a1⟩
  · obtain ⟨⟨W, hW, hb⟩, a0, a1⟩ := h.1 c
    rw [(hm c).1] at hW
    refine ⟨a0.trans (hm c).1, ?_, ?_, ?_, a1.trans (hm c).2, ?_, ?_, a0, a1⟩
    · exact (hb _).trans (hW.drawn.trans (drawn_eq _ (hX c) _).symm)
    · exact (hb _).trans (hW.entropy.trans (entropy_eq _ _).symm)
    · exact (hb _).trans (hW.logq.trans (logq_eq _ (hX c) _).symm)
    · exact (hb _).trans (hW.matched.trans (matched_eq _ (hX c) _).symm)
    · exact (hb _).trans hW.draws

theorem claim : Cert.Claim :=
  ⟨Cert.Kernel.Gen.facts, Cert.KernelIdeal.Gen.facts, Cert.ReferenceIdeal.Gen.facts, Cert.Pre_positive.Gen.facts,
    Cert.Kernel.Same.frame, fun m g _ => Cert.KernelIdeal.Body.frame_run m g, kernel_frame, Cert.ReferenceIdeal.Line.frame,
    reference_frame, trivial, algebraic⟩

end Cert.Proof

end
